-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_place [hPre_rows_in_place : Cert.Pre_rows_in_place.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_place.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_place [hPre_rows_in_place : Cert.Pre_rows_in_place.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_place.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rows_in_place [hKernelIdeal : Cert.KernelIdeal.Facts] [hPre_rows_in_place : Cert.Pre_rows_in_place.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_place m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_in_place [hReferenceIdeal : Cert.ReferenceIdeal.Facts] [hPre_rows_in_place : Cert.Pre_rows_in_place.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_place m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "per_gene" .f32 0x3727C5AC#32 ((1 / 100000 : ℝ) : EReal)

def algebraic_KernelIdeal_ReferenceIdeal_pre_rows_in_place [hKernelIdeal : Cert.KernelIdeal.Facts] [hReferenceIdeal : Cert.ReferenceIdeal.Facts] [hPre_rows_in_place : Cert.Pre_rows_in_place.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_place m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_in_place : Cert.Pre_rows_in_place.Facts),
    quiescent_Kernel (hKernel := hKernel)
    ∧ quiescent_KernelIdeal (hKernelIdeal := hKernelIdeal)
    ∧ quiescent_KernelIdeal_pre_rows_in_place (hKernelIdeal := hKernelIdeal) (hPre_rows_in_place := hPre_rows_in_place)
    ∧ quiescent_ReferenceIdeal (hReferenceIdeal := hReferenceIdeal)
    ∧ quiescent_ReferenceIdeal_pre_rows_in_place (hReferenceIdeal := hReferenceIdeal) (hPre_rows_in_place := hPre_rows_in_place)
    ∧ preserves_Kernel_KernelIdeal
    ∧ algebraic_KernelIdeal_ReferenceIdeal_pre_rows_in_place (hKernelIdeal := hKernelIdeal) (hReferenceIdeal := hReferenceIdeal) (hPre_rows_in_place := hPre_rows_in_place)
-- ==== Pre_rows_in_place.lean ====
abbrev S50000x128 : Shape := ⟨2, ![50000, 128]⟩
abbrev S128 : Shape := ⟨1, ![128]⟩
abbrev S50000 : Shape := ⟨1, ![50000]⟩
abbrev S_ : Shape := ⟨0, ![]⟩

class Facts : Prop where
  reducesTo_S50000_S_d0 : S50000.ReducesTo [0] S_
  h_S_ : 0 < S_.numel
  bcast_S_S50000 : S_.BroadcastsInDim S50000 (![] : Fin 0 → Fin S50000.rank)

variable [Facts]

def fn {F : FTy → Type} [FloatOps F] (main_arg0 : FVec F S50000x128 .f32) (main_arg1 : FVec F S50000x128 .f32) (main_arg2 : FVec F S128 .f32) (main_arg3 : IVec S50000 32) (main_arg4 : IVec S50000 32) : IVec S_ 1 :=
  let main_v0 : IVec S50000 32 := iotaInDim S50000 32 0
  let main_v1 : IVec S50000 1 := cmpi .eq main_arg3 main_v0
  let main_c : IVec S_ 1 := constantI S_ 1 1#1
  let main_v2 : IVec S_ 1 := (fun x v => Host.reduce IntOp.andi x v reducesTo_S50000_S_d0 h_S_) main_v1 main_c
  let main_v3 : IVec S50000 32 := iotaInDim S50000 32 0
  let main_c_0 : IVec S_ 32 := constantI S_ 32 50000#32
  let main_v4 : IVec S50000 32 := broadcastInDim S50000 ![] bcast_S_S50000 main_c_0
  let main_v5 : IVec S50000 32 := addi main_v4 main_v3
  let main_v6 : IVec S50000 1 := cmpi .eq main_arg4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v2 main_v7
  main_v8
-- ==== Kernel.lean ====
abbrev S50000x128 : Shape := ⟨2, ![50000, 128]⟩
abbrev S128 : Shape := ⟨1, ![128]⟩
abbrev S50000 : Shape := ⟨1, ![50000]⟩
abbrev S1x128 : Shape := ⟨2, ![1, 128]⟩
abbrev S100000x128 : Shape := ⟨2, ![100000, 128]⟩
abbrev S2x128 : Shape := ⟨2, ![2, 128]⟩
abbrev S2x1 : Shape := ⟨2, ![2, 1]⟩
abbrev S2 : Shape := ⟨1, ![2]⟩
abbrev S40 : Shape := ⟨1, ![40]⟩
abbrev S1 : Shape := ⟨1, ![1]⟩
abbrev S_ : Shape := ⟨0, ![]⟩
abbrev S2500x128 : Shape := ⟨2, ![2500, 128]⟩

abbrev nBuf : Space → Nat
  | .hbm => 10
  | .vmem => 3
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128, .f32⟩
  | .hbm, ⟨3, _⟩ => ⟨S50000, .i32⟩
  | .hbm, ⟨4, _⟩ => ⟨S50000, .i32⟩
  | .hbm, ⟨5, _⟩ => ⟨S1x128, .f32⟩
  | .hbm, ⟨6, _⟩ => ⟨S100000x128, .f32⟩
  | .hbm, ⟨7, _⟩ => ⟨S2x128, .f32⟩
  | .hbm, ⟨8, _⟩ => ⟨S2x1, .f32⟩
  | .hbm, ⟨9, _⟩ => ⟨S2, .f32⟩
  | .local _ .vmem, ⟨0, _⟩ => ⟨S1x128, .f32⟩
  | .local _ .vmem, ⟨1, _⟩ => ⟨S2x128, .f32⟩
  | .local _ .vmem, ⟨2, _⟩ => ⟨S100000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0_0 : Ref sig .tc := ⟨.hbm, 6, rfl⟩
abbrev main_call0_v1_1 : Ref sig .tc := ⟨.hbm, 7, rfl⟩
abbrev main_call0_v2 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "per_gene" => some ((1 / 100000 : ℝ) : EReal)
  | _ => none
-- ==== ReferenceIdeal.lean ====
abbrev S50000x128 : Shape := ⟨2, ![50000, 128]⟩
abbrev S128 : Shape := ⟨1, ![128]⟩
abbrev S50000 : Shape := ⟨1, ![50000]⟩
abbrev S_ : Shape := ⟨0, ![]⟩
abbrev S100000x128 : Shape := ⟨2, ![100000, 128]⟩
abbrev S50000x1 : Shape := ⟨2, ![50000, 1]⟩
abbrev S128x1 : Shape := ⟨2, ![128, 1]⟩
abbrev S128x2 : Shape := ⟨2, ![128, 2]⟩
abbrev S2 : Shape := ⟨1, ![2]⟩
abbrev S1 : Shape := ⟨1, ![1]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128, .f32⟩
  | .hbm, ⟨3, _⟩ => ⟨S50000, .i32⟩
  | .hbm, ⟨4, _⟩ => ⟨S50000, .i32⟩
  | .hbm, ⟨5, _⟩ => ⟨S_, .f32⟩
  | .hbm, ⟨6, _⟩ => ⟨S100000x128, .f32⟩
  | .hbm, ⟨7, _⟩ => ⟨S_, .i32⟩
  | .hbm, ⟨8, _⟩ => ⟨S50000, .i32⟩
  | .hbm, ⟨9, _⟩ => ⟨S50000, .i1⟩
  | .hbm, ⟨10, _⟩ => ⟨S_, .i32⟩
  | .hbm, ⟨11, _⟩ => ⟨S50000, .i32⟩
  | .hbm, ⟨12, _⟩ => ⟨S50000, .i32⟩
  | .hbm, ⟨13, _⟩ => ⟨S50000, .i32⟩
  | .hbm, ⟨14, _⟩ => ⟨S50000x1, .i32⟩
  | .hbm, ⟨15, _⟩ => ⟨S100000x128, .f32⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S100000x128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128x1, .f32⟩
  | .hbm, ⟨36, _⟩ => ⟨S128x1, .f32⟩
  | .hbm, ⟨37, _⟩ => ⟨S128x2, .f32⟩
  | .hbm, ⟨38, _⟩ => ⟨S2, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S2, .f32⟩
  | .hbm, ⟨45, _⟩ => ⟨S2, .f32⟩
  | .hbm, ⟨46, _⟩ => ⟨S2, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S2, .f32⟩
  | .hbm, ⟨51, _⟩ => ⟨S2, .f32⟩
  | .hbm, ⟨52, _⟩ => ⟨S1, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S1, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Proof.KIChunks.lean ====
/-
  The kernel body of `KernelIdeal` regrouped chunk by chunk: forty copies in, forty waits each followed by the column
  sums of the chunk that landed, the scores, forty scalings each followed by a copy out, forty waits. A half `h` is
  the node rows (0) or the hyperedge rows (1); a chunk is one of its twenty blocks of 2500 rows.
-/
module

public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F] [Named F]

/-! ## Where a chunk lies -/

/-- A chunk's rows lie in the 50000 rows of its half. -/
theorem half_inb (j : Fin 20) : ∀ a, (![2500 * j.val, 0] : Fin 2 → ℕ) a + S2500x128.size a ≤ S50000x128.size a := by
  revert j; decide
/-- A chunk's rows lie in the 100000 rows of the cache and of the result. -/
theorem rows_inb (h : Fin 2) (j : Fin 20) :
    ∀ a, (![50000 * h.val + 2500 * j.val, 0] : Fin 2 → ℕ) a + S2500x128.size a ≤ S100000x128.size a := by
  revert h j; decide
/-- A chunk's semaphore lies in its array of forty. -/
theorem sem_inb (h : Fin 2) (j : Fin 20) : ∀ a, (![20 * h.val + j.val] : Fin 1 → ℕ) a + S1.size a ≤ S40.size a := by
  revert h j; decide

/-- The rows of chunk `j` within its half. -/
abbrev half (j : Fin 20) : Rect S50000x128 := Rect.unit (s := S50000x128) ![2500 * j.val, 0] S2500x128.size (half_inb j)
/-- The rows of chunk `j` of half `h` within the whole. -/
abbrev rows (h : Fin 2) (j : Fin 20) : Rect S100000x128 :=
  Rect.unit (s := S100000x128) ![50000 * h.val + 2500 * j.val, 0] S2500x128.size (rows_inb h j)
/-- The semaphore of chunk `j` of half `h` in an array of forty. -/
abbrev semOf (a : DmaSems sig S40) (h : Fin 2) (j : Fin 20) : DmaSem sig :=
  ((a.slice (Rect.unit (s := S40) ![20 * h.val + j.val] S1.size (sem_inb h j))).squeeze S_ squeezes_S1_S_).sem

/-- The chunks of a half after the first, in order. -/
def later : List (Fin 20) := [1, 2, 3, 4, 5, 6, 7, 8, 9, 10, 11, 12, 13, 14, 15, 16, 17, 18, 19]
/-- The chunks of a half, in order. -/
def chunks : List (Fin 20) := 0 :: later

/-! ## What is computed -/

/-- The reciprocal of the number of rows, as the kernel names it. -/
def perGene : F .f32 := Named.named κ "per_gene" 0x3727C5AC#32
/-- The column sums of one chunk. -/
def colsum (v : Vec F S2500x128 .f32) : FVec F S1x128 .f32 := k0_pay1 v
/-- The two halves' column sums, one above the other. -/
def stack (n e : FVec F S1x128 .f32) : FVec F S2x128 .f32 :=
  concatenate S2x128 0 [⟨S1x128, n⟩, ⟨S1x128, e⟩] concatenates_S1x128_S1x128_S2x128_d0
/-- The scores, each repeated along a row of 128. -/
def scoreRows (s : FVec F S2x128 .f32) (w : Vec F S1x128 .f32) : FVec F S2x128 .f32 := k0_pay41 s perGene w
/-- The attention of the two halves. -/
def attn (s : FVec F S2x128 .f32) (w : Vec F S1x128 .f32) : FVec F S2 .f32 := k0_pay42 s perGene w
/-- A chunk of half `h` scaled by its half's attention. -/
def scale (h : Fin 2) (g : FVec F S2 .f32) (v : Vec F S2500x128 .f32) : FVec F S2500x128 .f32 :=
  match h with
  | 0 => k0_pay46 g v
  | 1 => k0_pay89 g v

/-! ## The body, chunk by chunk -/

abbrev Pr (F : FTy → Type) : Type 1 := Prog (TpuEff nD τ sig (Elt F) Λ₀ .tc) PUnit

variable (a : Memref sig .tc .hbm S50000x128 .f32) (o : Memref sig .tc .hbm S100000x128 .f32)
  (b : Memref sig .tc .vmem S100000x128 .f32) (si so : DmaSems sig S40)

/-- Start the copies of the chunks of one half into the cache. -/
def inCopies (h : Fin 2) : List (Fin 20) → Pr F → Pr F
  | [], K => K
  | j :: js, K => .op (.enqueueDma (a.slice (half j) (fun _ => rfl)) (.here (b.slice (rows h j) (fun _ => rfl))) (.dma (semOf si h j))
      (View.wordExact_bits rfl) (View.wordExact_bits rfl) ⟨Or.inl rfl, trivial⟩) fun _ => inCopies h js K

/-- Wait for a chunk and read it from the cache. -/
def waitLoad (h : Fin 2) (j : Fin 20) (K : Vec F S2500x128 .f32 → Pr F) : Pr F :=
  .op (.waitDma2 (semOf si h j) (a.slice (half j) (fun _ => rfl)) (b.slice (rows h j) (fun _ => rfl))
      (View.wordExact_bits rfl) (View.wordExact_bits rfl)) fun _ =>
  .op (.load b (rows h j).toLoadRect (View.loadsAt_vmem h_S2500x128)) K

/-- Wait for further chunks of one half, adding up their column sums. -/
def sums (h : Fin 2) : List (Fin 20) → FVec F S1x128 .f32 → (FVec F S1x128 .f32 → Pr F) → Pr F
  | [], s, K => K s
  | j :: js, s, K => waitLoad a b si h j fun v => sums h js (addf s (colsum v)) K

/-- Scale the chunks of one half in the cache and start the copy of each into the result. -/
def outCopies (h : Fin 2) (g : FVec F S2 .f32) : List (Fin 20) → Pr F → Pr F
  | [], K => K
  | j :: js, K =>
    .op (.load b (rows h j).toLoadRect (View.loadsAt_vmem h_S2500x128)) fun v =>
    .op (.load b (rows h j).toLoadRect (View.loadsAt_vmem h_S2500x128)) fun _ =>
    .op (.store b (rows h j) (scale h g v) Finset.univ (View.stores_vmem_bits_univ h_S2500x128 rfl) (.inl rfl)) fun _ =>
    .op (.enqueueDma (b.slice (rows h j) (fun _ => rfl)) (.here (o.slice (rows h j) (fun _ => rfl))) (.dma (semOf so h j))
      (View.wordExact_bits rfl) (View.wordExact_bits rfl) ⟨Or.inl rfl, trivial⟩) fun _ => outCopies h g js K

/-- Wait for the copies of one half into the result. -/
def outWaits (h : Fin 2) : List (Fin 20) → Pr F → Pr F
  | [], K => K
  | j :: js, K => .op (.waitDma2 (semOf so h j) (b.slice (rows h j) (fun _ => rfl)) (o.slice (rows h j) (fun _ => rfl))
      (View.wordExact_bits rfl) (View.wordExact_bits rfl)) fun _ => outWaits h js K

/-- The middle of the body: the scores are written, the attention goes on. -/
def middle (w : Memref sig .tc .vmem S1x128 .f32) (sc : Memref sig .tc .vmem S2x128 .f32) (s : FVec F S2x128 .f32)
    (K : FVec F S2 .f32 → Pr F) : Pr F :=
  .op (.load w (Rect.unit (s := S1x128) ![0, 0] S1x128.size inb_S1x128_S1x128_0_0).toLoadRect (View.loadsAt_vmem h_S1x128)) fun x =>
  .op (.load sc (Rect.unit (s := S2x128) ![0, 0] S2x128.size inb_S2x128_S2x128_0_0).toLoadRect (View.loadsAt_vmem h_S2x128)) fun _ =>
  .op (.store sc (Rect.unit (s := S2x128) ![0, 0] S2x128.size inb_S2x128_S2x128_0_0) (scoreRows s x) Finset.univ
      (View.stores_vmem_bits_univ h_S2x128 rfl) (.inl rfl)) fun _ => K (attn s x)

/-- The whole body. -/
def body (a' : Memref sig .tc .hbm S50000x128 .f32) (w : Memref sig .tc .vmem S1x128 .f32) (sc : Memref sig .tc .vmem S2x128 .f32) : Pr F :=
  inCopies a b si 0 chunks <| inCopies a' b si 1 chunks <|
  waitLoad a b si 0 0 fun v => sums a b si 0 later (colsum v) fun sn =>
  waitLoad a' b si 1 0 fun v' => sums a' b si 1 later (colsum v') fun se =>
  middle w sc (stack sn se) fun g =>
  outCopies o b so 0 g chunks <| outCopies o b so 1 g chunks <|
  outWaits o b so 0 chunks <| outWaits o b so 1 chunks <| .ret ⟨⟩

set_option maxRecDepth 65536 in
/-- The printed body is the body chunk by chunk. -/
theorem body_eq (ha : a.IsWhole) (a' : Memref sig .tc .hbm S50000x128 .f32) (ha' : a'.IsWhole)
    (w : Memref sig .tc .vmem S1x128 .f32) (hw : w.IsWhole) (ho : o.IsWhole) (sc : Memref sig .tc .vmem S2x128 .f32) (hsc : sc.IsWhole)
    (hb : b.IsWhole) :
    cc0__body (F := F) a ha a' ha' w hw o ho sc hsc b hb si so = body a o b si so a' w sc := by
  sl_kernel_rfl

end Cert.KernelIdeal.Hand

end
-- ==== Proof.KIBody.lean ====
/-
  The body of `KernelIdeal` run step by step, over the chunk lists: what is held before and after each of its parts.
  A chunk of an argument, of the cache or of the result is held by its rows alone, so chunks do not interfere.
-/
module

public import proofs.«01_k».proof.Proof.KIChunks
public import proofs.«01_k».proof.Proof.Gen.KernelIdeal.Launch
public import Idealize.ShloMosaic.Lib.Pipeline.FrameBody
public import Idealize.ShloMosaic.Lib.Pipeline.BigSepL
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- Weakest precondition of a piece of the body on a device. -/
abbrev runs (c : Dev nD) (p : Pr F) (Q : PUnit → sProp 𝕄) : sProp 𝕄 :=
  wp frame (wpE (defs₀ (F := F)) Variants.none (c : Thread nD τ) none) Set.univ p Q

/-! ## What is held -/

section held
variable {sp : Space} (c : Dev nD)

/-- The view of a chunk of one half. -/
abbrev halfView (a : Memref sig .tc sp S50000x128 .f32) (j : Fin 20) : View sig .tc sp S2500x128 .f32 :=
  (a.slice (half j) (fun _ => rfl)).view
/-- The view of a chunk of the whole. -/
abbrev rowView (m : Memref sig .tc sp S100000x128 .f32) (h : Fin 2) (j : Fin 20) : View sig .tc sp S2500x128 .f32 :=
  (m.slice (rows h j) (fun _ => rfl)).view

/-- The rows of chunk `j` of one half, holding `f`. -/
def srcAt (a : Memref sig .tc sp S50000x128 .f32) (j : Fin 20) (f : Buf (Elt F) (a.view.loc (c : Thread nD τ))) : sProp 𝕄 :=
  ((halfView a j).loc (c : Thread nD τ)) ↦[(halfView a j).set]{fullShare} f
/-- The rows of chunk `j` of half `h` of the whole, holding `f`. -/
def rowAt (m : Memref sig .tc sp S100000x128 .f32) (h : Fin 2) (j : Fin 20) (f : Buf (Elt F) (m.view.loc (c : Thread nD τ))) : sProp 𝕄 :=
  ((rowView m h j).loc (c : Thread nD τ)) ↦[(rowView m h j).set]{fullShare} f
/-- The semaphore of a chunk at zero. -/
def semAt (s : DmaSems sig S40) (h : Fin 2) (j : Fin 20) : sProp 𝕄 := semVal ((c : Thread nD τ), SemLoc.dma (semOf s h j)) 0
/-- The core owes nothing. -/
def quiet : sProp 𝕄 := iprop(∃ W, owes (c : Thread nD τ) 0 W)

/-- Rows written over whole hold any contents that read back as what was written. -/
theorem rowAt_write (m : Memref sig .tc sp S100000x128 .f32) (h : Fin 2) (j : Fin 20) (f C : Buf (Elt F) (m.view.loc (c : Thread nD τ)))
    (w : Vec F S2500x128 .f32) (hw : (rowView m h j).read (Elt F) C = w) :
    (((rowView m h j).loc (c : Thread nD τ)) ↦[(rowView m h j).set]{fullShare} ((rowView m h j).write (Elt F) f w Finset.univ) : sProp 𝕄)
      = rowAt c m h j C := by
  refine pointsTo_congr fun i hi => ?_
  obtain ⟨x, -, rfl⟩ := Finset.mem_map.mp hi
  rw [View.write_emb_of_mem _ _ (Finset.mem_univ x), ← hw, View.read_apply, cast_cast, cast_eq]

end held

variable (c : Dev nD) (a a' : Memref sig .tc .hbm S50000x128 .f32) (o : Memref sig .tc .hbm S100000x128 .f32)
  (b : Memref sig .tc .vmem S100000x128 .f32) (si so : DmaSems sig S40)
  (fa : Buf (Elt F) (a.view.loc (c : Thread nD τ))) (C C' : Buf (Elt F) (b.view.loc (c : Thread nD τ)))
  (G : Buf (Elt F) (o.view.loc (c : Thread nD τ))) (h : Fin 2) (Q : PUnit → sProp (MT nD τ sig Unit (Elt F) ℕ (Pipeline.UD sig nD τ) ℕ))

/-- A copy of a chunk into the cache on its way. -/
def flyIn (j : Fin 20) : sProp 𝕄 :=
  Transfers.Flight (countersEmb (U := Pipeline.UD sig nD τ)) (c : Thread nD τ) (.dma (semOf si h j)) () (rowView b h j).dmaCredit
    iprop(rowAt c b h j C ∗ srcAt c a j fa)
/-- A copy of a chunk of the cache into the result on its way. -/
def flyOut (j : Fin 20) : sProp 𝕄 :=
  Transfers.Flight (countersEmb (U := Pipeline.UD sig nD τ)) (c : Thread nD τ) (.dma (semOf so h j)) () (rowView o h j).dmaCredit
    iprop(rowAt c o h j G ∗ rowAt c b h j C')

/-- Starting the copies in: the argument's chunks, the cache's and the semaphores go into flight. -/
theorem inCopies_wp (hC : ∀ j, (rowView b h j).read (Elt F) C = (halfView a j).read (Elt F) fa) (K : Pr F) (js : List (Fin 20)) :
    iprop(bigSepL js (fun j => iprop(srcAt c a j fa ∗ (∃ f, rowAt c b h j f) ∗ semAt c si h j))
        ∗ (bigSepL js (flyIn c a b si fa C h) -∗ runs c K Q))
      ⊢ runs c (inCopies a b si h js K) Q := by
  induction js generalizing Q with
  | nil =>
    iintro ⟨H, Hk⟩
    iapply Hk; iexact H
  | cons j js ih =>
    rw [bigSepL_cons', bigSepL_cons']
    iintro ⟨⟨⟨Hs, ⟨%f, Hd⟩, Hv⟩, Hr⟩, Hk⟩
    unfold srcAt rowAt semAt
    unfold inCopies
    iapply (Transfers.wp_dmaLocal (countersEmb (U := Pipeline.UD sig nD τ)) Variants.none (c : Thread nD τ) none ()
      (rowView b h j).dmaCredit rfl ((rowView b h j).dmaCredit_pos (by decide)) (Finset.Subset.refl _)) $$ [Hs Hd Hv]
    · isplitl [Hs]; · iexact Hs
      isplitl [Hd]; · iexact Hd
      iexact Hv
    iintro Hf
    iapply (ih Q)
    isplitl [Hr]; · iexact Hr
    iintro Hr
    iapply Hk
    isplitl [Hf]
    · have e := rowAt_write c b h j f C _ (hC j)
      unfold flyIn srcAt
      rw [← e]
      iexact Hf
    iexact Hr

/-- Waiting for a chunk and reading it: what was in flight is held again, and what is read is the chunk. -/
theorem waitLoad_wp (j : Fin 20) (K : Vec F S2500x128 .f32 → Pr F) :
    iprop(flyIn c a b si fa C h j ∗ quiet c
        ∗ (iprop((srcAt c a j fa ∗ rowAt c b h j C ∗ semAt c si h j) ∗ quiet c) -∗ runs c (K ((rowView b h j).read (Elt F) C)) Q))
      ⊢ runs c (waitLoad a b si h j K) Q := by
  unfold waitLoad flyIn quiet
  iintro ⟨Hf, ⟨%W, HW⟩, Hk⟩
  iapply (Transfers.wp_waitLocal (countersEmb (U := Pipeline.UD sig nD τ)) Variants.none (c : Thread nD τ) none () rfl) $$ [Hf HW]
  · isplitl [Hf]; · iexact Hf
    iexact HW
  iintro ⟨⟨Hd, Hs⟩, Hv, HW⟩
  unfold rowAt
  iapply (wp_load_rect Variants.none (c : Thread nD τ) none Set.univ (m := b) (r := rows h j) (Finset.Subset.refl _)) $$ Hd
  iintro Hd
  iapply Hk
  isplitl [Hs Hd Hv]
  · isplitl [Hs]; · iexact Hs
    isplitl [Hd]; · iexact Hd
    unfold semAt; iexact Hv
  iexists _; iexact HW

/-- Adding up column sums chunk after chunk, from `s`. -/
def sumFrom (v : Fin 20 → Vec F S2500x128 .f32) (js : List (Fin 20)) (s : FVec F S1x128 .f32) : FVec F S1x128 .f32 :=
  js.foldl (fun s j => addf s (colsum (v j))) s

/-- The column sums of one half, added up chunk after chunk. -/
def total (v : Fin 20 → Vec F S2500x128 .f32) : FVec F S1x128 .f32 := sumFrom v later (colsum (v 0))

/-- Waiting for chunk after chunk: what was in flight is held again, and what goes on is the sum. -/
theorem sums_wp (js : List (Fin 20)) (s : FVec F S1x128 .f32) (K : FVec F S1x128 .f32 → Pr F) :
    iprop(bigSepL js (flyIn c a b si fa C h) ∗ quiet c
        ∗ (iprop(bigSepL js (fun j => iprop(srcAt c a j fa ∗ rowAt c b h j C ∗ semAt c si h j)) ∗ quiet c)
            -∗ runs c (K (sumFrom (fun j => (rowView b h j).read (Elt F) C) js s)) Q))
      ⊢ runs c (sums a b si h js s K) Q := by
  induction js generalizing s with
  | nil =>
    iintro ⟨H, Hq, Hk⟩
    iapply Hk
    isplitl [H]; · iexact H
    iexact Hq
  | cons j js ih =>
    rw [bigSepL_cons', bigSepL_cons']
    unfold sums
    iintro ⟨⟨Hf, Hr⟩, Hq, Hk⟩
    iapply (waitLoad_wp c a b si fa C h Q j)
    isplitl [Hf]; · iexact Hf
    isplitl [Hq]; · iexact Hq
    iintro ⟨Hj, Hq⟩
    iapply (ih _)
    isplitl [Hr]; · iexact Hr
    isplitl [Hq]; · iexact Hq
    iintro ⟨Hr, Hq⟩
    iapply Hk
    isplitl [Hj Hr]
    · isplitl [Hj]; · iexact Hj
      iexact Hr
    iexact Hq

/-- A rectangle at offset zero of the shape's own size leaves every index where it is. -/
theorem emb_unit_zero {n k : ℕ} (hb : ∀ a, (![0, 0] : Fin 2 → ℕ) a + (![n, k] : Fin 2 → ℕ) a ≤ (⟨2, ![n, k]⟩ : Shape).size a)
    (x : (⟨2, ![n, k]⟩ : Shape).Idx) : (Rect.unit (s := ⟨2, ![n, k]⟩) ![0, 0] ![n, k] hb).emb x = x := by
  funext d
  apply Fin.ext
  show (![0, 0] : Fin 2 → ℕ) d + 1 * (x d : ℕ) = x d
  have : (![0, 0] : Fin 2 → ℕ) d = 0 := by
    match d with
    | ⟨0, _⟩ => rfl
    | ⟨1, _⟩ => rfl
  omega

/-- The middle: the weight is read, the score window comes to hold the scores' rows. -/
theorem middle_wp (w : Memref sig .tc .vmem S1x128 .f32) (sc : Memref sig .tc .vmem S2x128 .f32) (x : Vec F S1x128 .f32)
    (s : FVec F S2x128 .f32) (K : FVec F S2 .f32 → Pr F) :
    iprop(owns (c : Thread nD τ) w fullShare x ∗ (∃ d, owns (c : Thread nD τ) sc fullShare d)
        ∗ (iprop(owns (c : Thread nD τ) w fullShare x ∗ owns (c : Thread nD τ) sc fullShare (scoreRows s x)) -∗ runs c (K (attn s x)) Q))
      ⊢ runs c (middle w sc s K) Q := by
  unfold middle owns
  iintro ⟨⟨%fw, %hw, Hw⟩, ⟨%d, %fs, %hs, Hs⟩, Hk⟩
  have hset : ∀ (hb : ∀ a, (![0, 0] : Fin 2 → ℕ) a + S2x128.size a ≤ S2x128.size a),
      (sc.access (Rect.unit (s := S2x128) ![0, 0] S2x128.size hb)).set = sc.view.set := fun hb => by
    ext i
    constructor
    · intro hi
      obtain ⟨y, -, rfl⟩ := Finset.mem_map.mp hi
      exact Finset.mem_map.mpr ⟨_, Finset.mem_univ _, rfl⟩
    · intro hi
      obtain ⟨y, -, rfl⟩ := Finset.mem_map.mp hi
      exact Finset.mem_map.mpr ⟨y, Finset.mem_univ _, congrArg sc.view.emb (emb_unit_zero hb y)⟩
  have hwset : ∀ (hb : ∀ a, (![0, 0] : Fin 2 → ℕ) a + S1x128.size a ≤ S1x128.size a),
      (w.access (Rect.unit (s := S1x128) ![0, 0] S1x128.size hb)).set ⊆ w.view.set := fun hb => by
    intro i hi
    obtain ⟨y, -, rfl⟩ := Finset.mem_map.mp hi
    exact Finset.mem_map.mpr ⟨_, Finset.mem_univ _, rfl⟩
  iapply (wp_load_rect Variants.none (c : Thread nD τ) none Set.univ (m := w) (r := Rect.unit (s := S1x128) ![0, 0] S1x128.size inb_S1x128_S1x128_0_0)
    (hwset _)) $$ Hw
  iintro Hw
  rw [show (w.access (Rect.unit (s := S1x128) ![0, 0] S1x128.size inb_S1x128_S1x128_0_0)).read (Elt F) fw = x from by
    rw [← hw]; funext y
    show cast _ (fw (w.view.emb _)) = cast _ (fw (w.view.emb _))
    rw [emb_unit_zero]]
  iapply (wp_load_rect Variants.none (c : Thread nD τ) none Set.univ (m := sc) (r := Rect.unit (s := S2x128) ![0, 0] S2x128.size inb_S2x128_S2x128_0_0)
    (hset _).subset) $$ Hs
  iintro Hs
  iapply (wp_store Variants.none (c : Thread nD τ) none Set.univ (m := sc) (r := Rect.unit (s := S2x128) ![0, 0] S2x128.size inb_S2x128_S2x128_0_0)
    (hset _).subset) $$ Hs
  iintro Hs
  iapply Hk
  isplitl [Hw]
  · iexists fw; isplitr
    · ipureintro; exact hw
    iexact Hw
  iexists _; isplitr
  swap; · iexact Hs
  ipureintro
  funext y
  have hy := View.read_write_univ (v := sc.access (Rect.unit (s := S2x128) ![0, 0] S2x128.size inb_S2x128_S2x128_0_0)) (Val := Elt F) fs (scoreRows s x)
  have hy' := congrFun hy y
  rw [← hy']
  rw [View.read_apply, View.read_apply]
  congr 2
  exact congrArg sc.view.emb (emb_unit_zero inb_S2x128_S2x128_0_0 y).symm

/-- Reading a chunk of the cache. -/
theorem loadRow_wp (j : Fin 20) (hl) (k : Vec F S2500x128 .f32 → Pr F) :
    rowAt c b h j C ⊢ iprop((rowAt c b h j C -∗ runs c (k ((rowView b h j).read (Elt F) C)) Q)
      -∗ runs c (.op (.load b (rows h j).toLoadRect hl) k) Q) :=
  wp_load_rect Variants.none (c : Thread nD τ) none Set.univ (m := b) (r := rows h j) (Finset.Subset.refl _)

/-- Storing the scaled chunk: the cache's rows go from `C` to `C'`. -/
theorem storeRow_wp (j : Fin 20) (v : Vec F S2500x128 .f32) (hv : (rowView b h j).read (Elt F) C' = v) (hx hm) (k : PUnit → Pr F) :
    rowAt c b h j C ⊢ iprop((rowAt c b h j C' -∗ runs c (k ⟨⟩) Q)
      -∗ runs c (.op (.store b (rows h j) v Finset.univ hx hm) k) Q) := by
  rw [← rowAt_write c b h j C C' v hv]
  exact wp_store Variants.none (c : Thread nD τ) none Set.univ (m := b) (r := rows h j) (Finset.Subset.refl _)

/-- Scaling chunk after chunk and starting its copy into the result. -/
theorem outCopies_wp (g : FVec F S2 .f32) (hC : ∀ j, (rowView b h j).read (Elt F) C' = scale h g ((rowView b h j).read (Elt F) C))
    (hG : ∀ j, (rowView o h j).read (Elt F) G = (rowView b h j).read (Elt F) C') (K : Pr F) (js : List (Fin 20)) :
    iprop(bigSepL js (fun j => iprop(rowAt c b h j C ∗ (∃ f, rowAt c o h j f) ∗ semAt c so h j))
        ∗ (bigSepL js (flyOut c o b so C' G h) -∗ runs c K Q))
      ⊢ runs c (outCopies o b so h g js K) Q := by
  induction js with
  | nil =>
    iintro ⟨H, Hk⟩
    iapply Hk; iexact H
  | cons j js ih =>
    rw [bigSepL_cons', bigSepL_cons']
    unfold outCopies
    iintro ⟨⟨⟨Hs, ⟨%f, Hd⟩, Hv⟩, Hr⟩, Hk⟩
    iapply (loadRow_wp c b C h Q j) $$ Hs
    iintro Hs
    iapply (loadRow_wp c b C h Q j) $$ Hs
    iintro Hs
    iapply (storeRow_wp c b C C' h Q j _ (hC j)) $$ Hs
    iintro Hs
    unfold rowAt semAt
    iapply (Transfers.wp_dmaLocal (countersEmb (U := Pipeline.UD sig nD τ)) Variants.none (c : Thread nD τ) none ()
      (rowView o h j).dmaCredit rfl ((rowView o h j).dmaCredit_pos (by decide)) (Finset.Subset.refl _)) $$ [Hs Hd Hv]
    · isplitl [Hs]; · iexact Hs
      isplitl [Hd]; · iexact Hd
      iexact Hv
    iintro Hf
    iapply ih
    isplitl [Hr]; · iexact Hr
    iintro Hr
    iapply Hk
    isplitl [Hf]
    · have e := rowAt_write c o h j f G _ (hG j)
      unfold flyOut
      rw [← e]
      unfold rowAt
      iexact Hf
    iexact Hr

/-- Waiting for the copies into the result. -/
theorem outWaits_wp (K : Pr F) (js : List (Fin 20)) :
    iprop(bigSepL js (flyOut c o b so C' G h) ∗ quiet c
        ∗ (iprop(bigSepL js (fun j => iprop(rowAt c b h j C' ∗ rowAt c o h j G ∗ semAt c so h j)) ∗ quiet c) -∗ runs c K Q))
      ⊢ runs c (outWaits o b so h js K) Q := by
  induction js with
  | nil =>
    iintro ⟨H, Hq, Hk⟩
    iapply Hk
    isplitl [H]; · iexact H
    iexact Hq
  | cons j js ih =>
    rw [bigSepL_cons', bigSepL_cons']
    unfold outWaits flyOut quiet
    iintro ⟨⟨Hf, Hr⟩, ⟨%W, HW⟩, Hk⟩
    iapply (Transfers.wp_waitLocal (countersEmb (U := Pipeline.UD sig nD τ)) Variants.none (c : Thread nD τ) none () rfl) $$ [Hf HW]
    · isplitl [Hf]; · iexact Hf
      iexact HW
    iintro ⟨⟨Hd, Hs⟩, Hv, HW⟩
    unfold flyOut quiet at ih
    iapply ih
    isplitl [Hr]; · iexact Hr
    isplitl [HW]; · iexists _; iexact HW
    iintro ⟨Hr, Hq⟩
    iapply Hk
    isplitl [Hs Hd Hv Hr]
    · isplitl [Hs Hd Hv]
      · isplitl [Hs]; · iexact Hs
        isplitl [Hd]; · iexact Hd
        unfold semAt; iexact Hv
      iexact Hr
    iexact Hq

/-- Four held things, the middle two exchanged. -/
theorem swap (A B X Y : sProp 𝕄) : iprop((A ∗ B) ∗ (X ∗ Y)) ⊢ iprop((A ∗ X) ∗ (B ∗ Y)) := by
  iintro ⟨⟨H1, H2⟩, H3, H4⟩
  isplitl [H1 H3]
  · isplitl [H1]; · iexact H1
    iexact H3
  isplitl [H2]; · iexact H2
  iexact H4

/-- A chain over pairs is the pair of the chains. -/
theorem bigSepL_both {I : Type} (l : List I) (Φ Ψ : I → sProp 𝕄) :
    bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    exact (swap _ _ _ _).antisymm (swap _ _ _ _)

/-- Waiting for all chunks of one half. -/
theorem half_wp (K : FVec F S1x128 .f32 → Pr F) :
    iprop(bigSepL chunks (flyIn c a b si fa C h) ∗ quiet c
        ∗ (iprop(bigSepL chunks (fun j => iprop(srcAt c a j fa ∗ rowAt c b h j C ∗ semAt c si h j)) ∗ quiet c)
            -∗ runs c (K (total (fun j => (rowView b h j).read (Elt F) C))) Q))
      ⊢ runs c (waitLoad a b si h 0 fun v => sums a b si h later (colsum v) K) Q := by
  rw [show chunks = 0 :: later from rfl, bigSepL_cons', bigSepL_cons']
  iintro ⟨⟨Hf, Hr⟩, Hq, Hk⟩
  iapply (waitLoad_wp c a b si fa C h Q 0)
  isplitl [Hf]; · iexact Hf
  isplitl [Hq]; · iexact Hq
  iintro ⟨Hj, Hq⟩
  iapply (sums_wp c a b si fa C h Q later)
  isplitl [Hr]; · iexact Hr
  isplitl [Hq]; · iexact Hq
  iintro ⟨Hr, Hq⟩
  iapply Hk
  isplitl [Hj Hr]
  · isplitl [Hj]; · iexact Hj
    iexact Hr
  iexact Hq

/-- What the two halves' column sums are when the cache holds `C`. -/
def sumsOf (C : Buf (Elt F) (b.view.loc (c : Thread nD τ))) : FVec F S2x128 .f32 :=
  stack (total fun j => (rowView b 0 j).read (Elt F) C) (total fun j => (rowView b 1 j).read (Elt F) C)

/-- THE BODY: from the arguments' chunks, the cache's and the result's at anything and every semaphore at zero, it ends
    with the cache's chunks and the result's at the scaled chunks, the score window at the scores' rows, every semaphore
    at zero and the arguments' chunks as they were. -/
theorem body_wp (w : Memref sig .tc .vmem S1x128 .f32) (sc : Memref sig .tc .vmem S2x128 .f32) (x : Vec F S1x128 .f32)
    (fa' : Buf (Elt F) (a'.view.loc (c : Thread nD τ)))
    (hC0 : ∀ j, (rowView b 0 j).read (Elt F) C = (halfView a j).read (Elt F) fa)
    (hC1 : ∀ j, (rowView b 1 j).read (Elt F) C = (halfView a' j).read (Elt F) fa')
    (hC' : ∀ h j, (rowView b h j).read (Elt F) C' = scale h (attn (sumsOf c b C) x) ((rowView b h j).read (Elt F) C))
    (hG : ∀ h j, (rowView o h j).read (Elt F) G = (rowView b h j).read (Elt F) C') :
    iprop((bigSepL chunks (fun j => srcAt c a j fa) ∗ bigSepL chunks (fun j => srcAt c a' j fa'))
        ∗ (bigSepL chunks (fun j => iprop(∃ f, rowAt c b 0 j f)) ∗ bigSepL chunks (fun j => iprop(∃ f, rowAt c b 1 j f)))
        ∗ (bigSepL chunks (fun j => iprop(∃ f, rowAt c o 0 j f)) ∗ bigSepL chunks (fun j => iprop(∃ f, rowAt c o 1 j f)))
        ∗ (bigSepL chunks (semAt c si 0) ∗ bigSepL chunks (semAt c si 1))
        ∗ (bigSepL chunks (semAt c so 0) ∗ bigSepL chunks (semAt c so 1))
        ∗ owns (c : Thread nD τ) w fullShare x ∗ (∃ d, owns (c : Thread nD τ) sc fullShare d) ∗ quiet c
        ∗ (iprop((bigSepL chunks (fun j => srcAt c a j fa) ∗ bigSepL chunks (fun j => srcAt c a' j fa'))
            ∗ (bigSepL chunks (fun j => rowAt c b 0 j C') ∗ bigSepL chunks (fun j => rowAt c b 1 j C'))
            ∗ (bigSepL chunks (fun j => rowAt c o 0 j G) ∗ bigSepL chunks (fun j => rowAt c o 1 j G))
            ∗ (bigSepL chunks (semAt c si 0) ∗ bigSepL chunks (semAt c si 1))
            ∗ (bigSepL chunks (semAt c so 0) ∗ bigSepL chunks (semAt c so 1))
            ∗ owns (c : Thread nD τ) w fullShare x ∗ owns (c : Thread nD τ) sc fullShare (scoreRows (sumsOf c b C) x) ∗ quiet c) -∗ Q ⟨⟩))
      ⊢ runs c (body a o b si so a' w sc) Q := by
  unfold body
  iintro ⟨⟨Ha, Ha'⟩, ⟨Hb0, Hb1⟩, ⟨Ho0, Ho1⟩, ⟨Hi0, Hi1⟩, ⟨Ht0, Ht1⟩, Hw, Hsc, Hq, Hk⟩
  iapply (inCopies_wp c a b si fa C 0 Q hC0)
  isplitl [Ha Hb0 Hi0]
  · rw [bigSepL_both, bigSepL_both]
    isplitl [Ha]; · iexact Ha
    isplitl [Hb0]; · iexact Hb0
    iexact Hi0
  iintro Hf0
  iapply (inCopies_wp c a' b si fa' C 1 Q hC1)
  isplitl [Ha' Hb1 Hi1]
  · rw [bigSepL_both, bigSepL_both]
    isplitl [Ha']; · iexact Ha'
    isplitl [Hb1]; · iexact Hb1
    iexact Hi1
  iintro Hf1
  iapply (half_wp c a b si fa C 0 Q)
  isplitl [Hf0]; · iexact Hf0
  isplitl [Hq]; · iexact Hq
  rw [bigSepL_both, bigSepL_both]
  iintro ⟨⟨Ha, Hb0, Hi0⟩, Hq⟩
  iapply (half_wp c a' b si fa' C 1 Q)
  isplitl [Hf1]; · iexact Hf1
  isplitl [Hq]; · iexact Hq
  rw [bigSepL_both, bigSepL_both]
  iintro ⟨⟨Ha', Hb1, Hi1⟩, Hq⟩
  iapply (middle_wp c Q w sc x)
  isplitl [Hw]; · iexact Hw
  isplitl [Hsc]; · iexact Hsc
  iintro ⟨Hw, Hsc⟩
  iapply (outCopies_wp c o b so C C' G 0 Q _ (hC' 0) (hG 0))
  isplitl [Hb0 Ho0 Ht0]
  · rw [bigSepL_both, bigSepL_both]
    isplitl [Hb0]; · iexact Hb0
    isplitl [Ho0]; · iexact Ho0
    iexact Ht0
  iintro Hf0
  iapply (outCopies_wp c o b so C C' G 1 Q _ (hC' 1) (hG 1))
  isplitl [Hb1 Ho1 Ht1]
  · rw [bigSepL_both, bigSepL_both]
    isplitl [Hb1]; · iexact Hb1
    isplitl [Ho1]; · iexact Ho1
    iexact Ht1
  iintro Hf1
  iapply (outWaits_wp c o b so C' G 0 Q)
  isplitl [Hf0]; · iexact Hf0
  isplitl [Hq]; · iexact Hq
  rw [bigSepL_both, bigSepL_both]
  iintro ⟨⟨Hb0, Ho0, Ht0⟩, Hq⟩
  iapply (outWaits_wp c o b so C' G 1 Q)
  isplitl [Hf1]; · iexact Hf1
  isplitl [Hq]; · iexact Hq
  rw [bigSepL_both, bigSepL_both]
  iintro ⟨⟨Hb1, Ho1, Ht1⟩, Hq⟩
  iapply (le_wp_ret _ _ _ _ _)
  iapply Hk
  isplitl [Ha Ha']
  · isplitl [Ha]; · iexact Ha
    iexact Ha'
  isplitl [Hb0 Hb1]
  · isplitl [Hb0]; · iexact Hb0
    iexact Hb1
  isplitl [Ho0 Ho1]
  · isplitl [Ho0]; · iexact Ho0
    iexact Ho1
  isplitl [Hi0 Hi1]
  · isplitl [Hi0]; · iexact Hi0
    iexact Hi1
  isplitl [Ht0 Ht1]
  · isplitl [Ht0]; · iexact Ht0
    iexact Ht1
  isplitl [Hw]; · iexact Hw
  isplitl [Hsc]; · iexact Hsc
  iexact Hq

end Cert.KernelIdeal.Hand

end
-- ==== Proof.KIWhole.lean ====
/-
  Whole arrays of `KernelIdeal` from their chunks: which chunk an index lies in, the arrays the chunks make up (the cache
  after the copies in and after the scaling), and a whole buffer held as its chunks.
-/
module

public import proofs.«01_k».proof.Proof.KIBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## Which chunk an index lies in -/

/-- The half of a row of the whole. -/
def partOf (i : S100000x128.Idx) : Fin 2 := ⟨(i 0).val / 50000, by have : (i 0).val < 100000 := (i 0).isLt; omega⟩
/-- Its chunk within the half. -/
def chunkOf (i : S100000x128.Idx) : Fin 20 := ⟨(i 0).val % 50000 / 2500, by omega⟩
/-- Its place within the chunk. -/
def placeOf (i : S100000x128.Idx) : S2500x128.Idx := fun d => match d with
  | ⟨0, _⟩ => ⟨(i 0).val % 2500, Nat.mod_lt _ (by decide)⟩
  | ⟨1, _⟩ => ⟨(i 1).val, (i 1).isLt⟩

/-- An index is the one its half, chunk and place name. -/
theorem emb_parts (i : S100000x128.Idx) : (rows (partOf i) (chunkOf i)).emb (placeOf i) = i := by
  have h0 : (i 0).val < 100000 := (i 0).isLt
  funext d
  apply Fin.ext
  match d with
  | ⟨0, _⟩ => show 50000 * ((i 0).val / 50000) + 2500 * ((i 0).val % 50000 / 2500) + 1 * ((i 0).val % 2500) = (i 0).val; omega
  | ⟨1, _⟩ => show 0 + 1 * (i 1).val = (i 1).val; omega

theorem partOf_emb (h : Fin 2) (j : Fin 20) (x : S2500x128.Idx) : partOf ((rows h j).emb x) = h := by
  have hx : (x 0).val < 2500 := (x 0).isLt
  apply Fin.ext
  show (50000 * h.val + 2500 * j.val + 1 * (x 0).val) / 50000 = h.val
  omega
theorem chunkOf_emb (h : Fin 2) (j : Fin 20) (x : S2500x128.Idx) : chunkOf ((rows h j).emb x) = j := by
  have hx : (x 0).val < 2500 := (x 0).isLt
  apply Fin.ext
  show (50000 * h.val + 2500 * j.val + 1 * (x 0).val) % 50000 / 2500 = j.val
  omega
theorem placeOf_emb (h : Fin 2) (j : Fin 20) (x : S2500x128.Idx) : placeOf ((rows h j).emb x) = x := by
  have hx : (x 0).val < 2500 := (x 0).isLt
  funext d
  apply Fin.ext
  match d with
  | ⟨0, _⟩ => show (50000 * h.val + 2500 * j.val + 1 * (x 0).val) % 2500 = (x 0).val; omega
  | ⟨1, _⟩ => show 0 + 1 * (x 1).val = (x 1).val; omega

/-- The rows of a chunk are the indices of that half and chunk. -/
theorem mem_rows (h : Fin 2) (j : Fin 20) (i : S100000x128.Idx) : i ∈ (rows h j).set ↔ partOf i = h ∧ chunkOf i = j := by
  rw [← Rect.map_emb_univ, Finset.mem_map]
  constructor
  · rintro ⟨x, -, rfl⟩; exact ⟨partOf_emb h j x, chunkOf_emb h j x⟩
  · rintro ⟨rfl, rfl⟩; exact ⟨placeOf i, Finset.mem_univ _, emb_parts i⟩

/-- The chunk of a row of one half. -/
def chunkIn (i : S50000x128.Idx) : Fin 20 := ⟨(i 0).val / 2500, by have : (i 0).val < 50000 := (i 0).isLt; omega⟩

/-- The rows of a chunk of one half are the indices of that chunk. -/
theorem mem_half (j : Fin 20) (i : S50000x128.Idx) : i ∈ (half j).set ↔ chunkIn i = j := by
  rw [← Rect.map_emb_univ, Finset.mem_map]
  constructor
  · rintro ⟨x, -, rfl⟩
    have hx : (x 0).val < 2500 := (x 0).isLt
    apply Fin.ext
    show (2500 * j.val + 1 * (x 0).val) / 2500 = j.val
    omega
  · rintro rfl
    refine ⟨fun d => match d with
      | ⟨0, _⟩ => ⟨(i 0).val % 2500, Nat.mod_lt _ (by decide)⟩
      | ⟨1, _⟩ => ⟨(i 1).val, (i 1).isLt⟩, Finset.mem_univ _, ?_⟩
    funext d
    apply Fin.ext
    match d with
    | ⟨0, _⟩ => show 2500 * ((i 0).val / 2500) + 1 * ((i 0).val % 2500) = (i 0).val; omega
    | ⟨1, _⟩ => show 0 + 1 * (i 1).val = (i 1).val; omega

/-! ## The arrays -/

/-- The array whose chunk `j` of half `h` is `v h j`. -/
def ofChunks (v : Fin 2 → Fin 20 → Vec F S2500x128 .f32) : Vec F S100000x128 .f32 := fun i => v (partOf i) (chunkOf i) (placeOf i)

theorem ofChunks_emb (v : Fin 2 → Fin 20 → Vec F S2500x128 .f32) (h : Fin 2) (j : Fin 20) (x : S2500x128.Idx) :
    ofChunks v ((rows h j).emb x) = v h j x := by
  unfold ofChunks
  rw [partOf_emb, chunkOf_emb, placeOf_emb]

/-- Chunk `j` of one half. -/
def chunk (f : Vec F S50000x128 .f32) (j : Fin 20) : Vec F S2500x128 .f32 := fun x => f ((half j).emb x)
/-- The chunks of the two halves. -/
def pick (f f' : Vec F S50000x128 .f32) (h : Fin 2) (j : Fin 20) : Vec F S2500x128 .f32 :=
  match h with
  | 0 => chunk f j
  | 1 => chunk f' j

/-- The cache once every copy in has landed: the node rows, then the hyperedge rows. -/
def loaded (f f' : Vec F S50000x128 .f32) : Vec F S100000x128 .f32 := ofChunks (pick f f')
/-- The column sums of the two halves. -/
def sums2 (f f' : Vec F S50000x128 .f32) : FVec F S2x128 .f32 := stack (total (chunk f)) (total (chunk f'))
/-- The result: every chunk scaled by its half's attention. -/
def scaled (f f' : Vec F S50000x128 .f32) (x : Vec F S1x128 .f32) : Vec F S100000x128 .f32 :=
  ofChunks fun h j => scale h (attn (sums2 f f') x) (pick f f' h j)

/-! ## Whole buffers held as their chunks -/

/-- Chunks of a half are apart. -/
theorem half_disjoint (j j' : Fin 20) (hj : j ≠ j') : Disjoint (half j).set (half j').set := by
  rw [Finset.disjoint_left]
  intro i h h'
  exact hj (((mem_half j i).mp h).symm.trans ((mem_half j' i).mp h'))

/-- Chunks of the whole are apart. -/
theorem rows_disjoint (h h' : Fin 2) (j j' : Fin 20) (hj : h ≠ h' ∨ j ≠ j') : Disjoint (rows h j).set (rows h' j').set := by
  rw [Finset.disjoint_left]
  intro i hi hi'
  have a := (mem_rows h j i).mp hi
  have b := (mem_rows h' j' i).mp hi'
  rcases hj with hj | hj
  · exact hj (a.1.symm.trans b.1)
  · exact hj (a.2.symm.trans b.2)

/-- The chunks of a half make it up. -/
theorem half_cover : (Finset.univ : Finset (Fin 20)).biUnion (fun j => (half j).set) = (Finset.univ : Finset S50000x128.Idx) := by
  ext i
  simp only [Finset.mem_biUnion, Finset.mem_univ, true_and, iff_true]
  exact ⟨chunkIn i, (mem_half _ i).mpr rfl⟩

/-- The chunks of both halves make up the whole. -/
theorem rows_cover : (Finset.univ : Finset (Fin 20)).biUnion (fun j => (rows 0 j).set) ∪ (Finset.univ : Finset (Fin 20)).biUnion (fun j => (rows 1 j).set)
    = (Finset.univ : Finset S100000x128.Idx) := by
  ext i
  simp only [Finset.mem_union, Finset.mem_biUnion, Finset.mem_univ, true_and, iff_true]
  have h : partOf i = 0 ∨ partOf i = 1 := by
    generalize partOf i = h
    revert h; decide
  rcases h with h | h
  · exact Or.inl ⟨chunkOf i, (mem_rows _ _ i).mpr ⟨h, rfl⟩⟩
  · exact Or.inr ⟨chunkOf i, (mem_rows _ _ i).mpr ⟨h, rfl⟩⟩

variable (c : Dev nD)

theorem overChunks (Φ : Fin 20 → sProp 𝕄) : bigSep Finset.univ Φ = bigSepL chunks Φ :=
  bigSep_univ_eq_bigSepL chunks (by decide) (by decide) Φ

/-- The node rows held whole are their chunks held. -/
theorem nodes_eq (f : Buf (Elt F) ((c : Thread nD τ).loc main_arg0)) :
    (((c : Thread nD τ).loc main_arg0) ↦{fullShare} f : sProp 𝕄) = bigSepL chunks fun j => srcAt c (Memref.whole main_arg0) j f := by
  have e := pointsTo_biUnion (Ix := Unit) (Name := ℕ) (U := Pipeline.UD sig nD τ) (Lvl := ℕ) (ℓ := (c : Thread nD τ).loc main_arg0) (q := fullShare) (f := f)
    (Finset.univ : Finset (Fin 20)) (fun j => (half j).set) (fun j _ j' _ hj => half_disjoint j j' hj)
  rw [overChunks] at e
  refine Eq.trans ?_ (e.trans ?_)
  · exact congrArg (fun S => (((c : Thread nD τ).loc main_arg0) ↦[S]{fullShare} f : sProp 𝕄)) half_cover.symm
  · refine congrArg (bigSepL chunks) (funext fun j => ?_)
    unfold srcAt
    exact congrArg (fun S => (((c : Thread nD τ).loc main_arg0) ↦[S]{fullShare} f : sProp 𝕄)) (View.set_slice_whole main_arg0 (half j)).symm

/-- The hyperedge rows held whole are their chunks held. -/
theorem edges_eq (f : Buf (Elt F) ((c : Thread nD τ).loc main_arg1)) :
    (((c : Thread nD τ).loc main_arg1) ↦{fullShare} f : sProp 𝕄) = bigSepL chunks fun j => srcAt c (Memref.whole main_arg1) j f := by
  have e := pointsTo_biUnion (Ix := Unit) (Name := ℕ) (U := Pipeline.UD sig nD τ) (Lvl := ℕ) (ℓ := (c : Thread nD τ).loc main_arg1) (q := fullShare) (f := f)
    (Finset.univ : Finset (Fin 20)) (fun j => (half j).set) (fun j _ j' _ hj => half_disjoint j j' hj)
  rw [overChunks] at e
  refine Eq.trans ?_ (e.trans ?_)
  · exact congrArg (fun S => (((c : Thread nD τ).loc main_arg1) ↦[S]{fullShare} f : sProp 𝕄)) half_cover.symm
  · refine congrArg (bigSepL chunks) (funext fun j => ?_)
    unfold srcAt
    exact congrArg (fun S => (((c : Thread nD τ).loc main_arg1) ↦[S]{fullShare} f : sProp 𝕄)) (View.set_slice_whole main_arg1 (half j)).symm

/-- A buffer of the whole's shape held on all its indices is held half by half, chunk by chunk. -/
theorem whole_eq (ℓ : Loc nD τ sig) (S : Fin 2 → Fin 20 → Finset (Idx ℓ)) (f : Buf (Elt F) ℓ)
    (hd : ∀ h h' j j', h ≠ h' ∨ j ≠ j' → Disjoint (S h j) (S h' j'))
    (hc : (Finset.univ : Finset (Fin 20)).biUnion (S 0) ∪ (Finset.univ : Finset (Fin 20)).biUnion (S 1) = Finset.univ) :
    (ℓ ↦{fullShare} f : sProp 𝕄) = iprop(bigSepL chunks (fun j => ℓ ↦[S 0 j]{fullShare} f) ∗ bigSepL chunks (fun j => ℓ ↦[S 1 j]{fullShare} f)) := by
  have e : ∀ h, (ℓ ↦[(Finset.univ : Finset (Fin 20)).biUnion (S h)]{fullShare} f : sProp 𝕄) = bigSepL chunks (fun j => ℓ ↦[S h j]{fullShare} f) := fun h =>
    (pointsTo_biUnion _ _ fun j _ j' _ hj => hd h h j j' (Or.inr hj)).trans (overChunks _)
  rw [← e 0, ← e 1]
  have apart : Disjoint ((Finset.univ : Finset (Fin 20)).biUnion (S 0)) ((Finset.univ : Finset (Fin 20)).biUnion (S 1)) := by
    rw [Finset.disjoint_biUnion_left]
    intro j _
    rw [Finset.disjoint_biUnion_right]
    intro j' _
    exact hd 0 1 j j' (Or.inl (by decide))
  refine Eq.trans ?_ ((pointsTo_union apart).mp.antisymm (pointsTo_union apart).mpr)
  rw [hc]

/-- The cache held whole is its chunks held. -/
theorem cache_eq (f : Buf (Elt F) ((c : Thread nD τ).loc cc0_scratch0)) :
    (((c : Thread nD τ).loc cc0_scratch0) ↦{fullShare} f : sProp 𝕄)
      = iprop(bigSepL chunks (fun j => rowAt c (Memref.whole cc0_scratch0) 0 j f) ∗ bigSepL chunks (fun j => rowAt c (Memref.whole cc0_scratch0) 1 j f)) := by
  have e := whole_eq (F := F) ((c : Thread nD τ).loc cc0_scratch0) (fun h j => (rows h j).set) f rows_disjoint rows_cover
  refine e.trans ?_
  have s : ∀ h j, (((c : Thread nD τ).loc cc0_scratch0) ↦[(rows h j).set]{fullShare} f : sProp 𝕄) = rowAt c (Memref.whole cc0_scratch0) h j f := fun h j => by
    unfold rowAt
    exact congrArg (fun S => (((c : Thread nD τ).loc cc0_scratch0) ↦[S]{fullShare} f : sProp 𝕄)) (View.set_slice_whole cc0_scratch0 (rows h j)).symm
  simp only [s]

/-- The result held whole is its chunks held. -/
theorem result_eq (f : Buf (Elt F) ((c : Thread nD τ).loc main_v0_0)) :
    (((c : Thread nD τ).loc main_v0_0) ↦{fullShare} f : sProp 𝕄)
      = iprop(bigSepL chunks (fun j => rowAt c (Memref.whole main_v0_0) 0 j f) ∗ bigSepL chunks (fun j => rowAt c (Memref.whole main_v0_0) 1 j f)) := by
  have e := whole_eq (F := F) ((c : Thread nD τ).loc main_v0_0) (fun h j => (rows h j).set) f rows_disjoint rows_cover
  refine e.trans ?_
  have s : ∀ h j, (((c : Thread nD τ).loc main_v0_0) ↦[(rows h j).set]{fullShare} f : sProp 𝕄) = rowAt c (Memref.whole main_v0_0) h j f := fun h j => by
    unfold rowAt
    exact congrArg (fun S => (((c : Thread nD τ).loc main_v0_0) ↦[S]{fullShare} f : sProp 𝕄)) (View.set_slice_whole main_v0_0 (rows h j)).symm
  simp only [s]

/-! ## Reading chunks off the arrays -/

theorem read_cache (f : Vec F S100000x128 .f32) (h : Fin 2) (j : Fin 20) :
    (rowView (Memref.whole cc0_scratch0) h j).read (Elt F) f = fun x => f ((rows h j).emb x) := rfl
theorem read_result (f : Vec F S100000x128 .f32) (h : Fin 2) (j : Fin 20) :
    (rowView (Memref.whole main_v0_0) h j).read (Elt F) f = fun x => f ((rows h j).emb x) := rfl
theorem read_nodes (f : Vec F S50000x128 .f32) (j : Fin 20) : (halfView (Memref.whole main_arg0) j).read (Elt F) f = chunk f j := rfl
theorem read_edges (f : Vec F S50000x128 .f32) (j : Fin 20) : (halfView (Memref.whole main_arg1) j).read (Elt F) f = chunk f j := rfl

/-- A chunk read off an array of chunks is that chunk. -/
theorem read_ofChunks (v : Fin 2 → Fin 20 → Vec F S2500x128 .f32) (h : Fin 2) (j : Fin 20) :
    (rowView (Memref.whole cc0_scratch0) h j).read (Elt F) (ofChunks v) = v h j := by
  rw [read_cache]; funext x; exact ofChunks_emb v h j x

end Cert.KernelIdeal.Hand

end
-- ==== Proof.KIRun.lean ====
/-
  The run of `KernelIdeal`: the region's one step is the body of KIBody.lean on whole buffers, and the program ends with
  its arguments as launched, the result scaled chunk by chunk, the scores read off the score rows, every counter at zero.
-/
module

public import proofs.«01_k».proof.Proof.KIWhole
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The program up to the region -/

set_option maxHeartbeats 800000 in
/-- The program is the host line before the region, the region, the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## What the region holds -/

/-- The semaphore arrays of the copies in and of the copies out. -/
def semArr (s : Fin 2) : DmaSems sig S40 := match s with
  | 0 => cc0_scratch1
  | 1 => cc0_scratch2
/-- The body's eighty semaphores: which array, which half, which chunk. -/
abbrev osem0 : Fin 2 × Fin 2 × Fin 20 → SemLoc sig := fun k => SemLoc.dma (semOf (semArr k.1) k.2.1 k.2.2)
set_option maxRecDepth 65536 in
theorem ownSemFacts0 : Pipeline.OwnSemFacts spec0 osem0 := by decide +kernel

/-- The arguments the body copies from. -/
def H0 : Finset (Ref sig .tc) := {main_arg0, main_arg1}
theorem H0_sub : H0 ⊆ Pipeline.restRefs sig spec0 := by decide
/-- The result the body copies into. -/
def R0 : Finset (Ref sig .tc) := {main_v0_0}
theorem R0_sub : R0 ⊆ Pipeline.restRefs sig spec0 \ H0 := by decide

/-- All the semaphores at zero are the four lists of them at zero. -/
theorem ownSems0_eq (c : Dev nD) :
    (Pipeline.ownSems0 (Ix := Unit) (Name := ℕ) (U := Pipeline.UD sig nD τ) (Lvl := ℕ) (Val := Elt F) (τ := τ) osem0 c : sProp 𝕄)
      = iprop((bigSepL chunks (semAt c cc0_scratch1 0) ∗ bigSepL chunks (semAt c cc0_scratch1 1))
          ∗ (bigSepL chunks (semAt c cc0_scratch2 0) ∗ bigSepL chunks (semAt c cc0_scratch2 1))) := by
  rw [Pipeline.ownSems0_eq_of_list c osem0
    (((chunks.map fun j => ((0 : Fin 2), (0 : Fin 2), j)) ++ (chunks.map fun j => ((0 : Fin 2), (1 : Fin 2), j)))
      ++ ((chunks.map fun j => ((1 : Fin 2), (0 : Fin 2), j)) ++ (chunks.map fun j => ((1 : Fin 2), (1 : Fin 2), j))))
    (by decide +kernel) (by decide +kernel)]
  rw [bigSepL_append, bigSepL_append, bigSepL_append, bigSepL_map, bigSepL_map, bigSepL_map, bigSepL_map]
  rfl

/-- What the result holds after the region. -/
def G (c : Dev nD) (t : Fin cfg0.N) : Vec F S100000x128 .f32 := scaled (V m c main_arg0) (V m c main_arg1) (iblk m c 0 t)
/-- What the score window holds after the region. -/
def scoreBlock (c : Dev nD) (t : Fin cfg0.N) : FVec F S2x128 .f32 := scoreRows (sums2 (V m c main_arg0) (V m c main_arg1)) (iblk m c 0 t)
/-- The buffers after the region: the result at `G`, every other as the region found it. -/
def after0 (c : Dev nD) : (b : Ref sig .tc) → Buf (Elt F) ((c.tc : Thread nD τ).loc b) :=
  Function.update (V m c) main_v0_0 (G m c t0_0)

/-- The region's holdings, the result at contents `g`. -/
theorem held_eq (c : Dev nD) (g : (c : Dev nD) → (b : Ref sig .tc) → Buf (Elt F) ((c.tc : Thread nD τ).loc b)) :
    (Pipeline.ΦDRV osem0 spec0 H0 R0 (V m) g c : sProp 𝕄)
      = iprop((∃ f : Buf (Elt F) ((c : Thread nD τ).loc cc0_scratch0), ((c : Thread nD τ).loc cc0_scratch0) ↦{fullShare} f)
          ∗ ((bigSepL chunks (semAt c cc0_scratch1 0) ∗ bigSepL chunks (semAt c cc0_scratch1 1))
            ∗ (bigSepL chunks (semAt c cc0_scratch2 0) ∗ bigSepL chunks (semAt c cc0_scratch2 1)))
          ∗ ((((c : Thread nD τ).loc main_arg0) ↦{fullShare} V m c main_arg0) ∗ (((c : Thread nD τ).loc main_arg1) ↦{fullShare} V m c main_arg1))
          ∗ (((c : Thread nD τ).loc main_v0_0) ↦{fullShare} g c main_v0_0)) := by
  unfold Pipeline.ΦDRV
  rw [scopedRest0_eq, ownSems0_eq, BI.bigSep_eq_bigSepL_of_eq (S := H0) [main_arg0, main_arg1] (by decide) (by decide),
    BI.bigSep_eq_bigSepL_of_eq (S := R0) [main_v0_0] (by decide) (by decide)]
  rfl

/-! ## The region's data and its one step -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => scoreBlock m c t
  Φ k := Pipeline.ΦDRV osem0 spec0 H0 R0 (V m) (if k.val = 0 then V m else after0 m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = scoreBlock m c t := by dsimp only [dats]

/-- The weight's window holds its block when the body starts. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]) t d).trans
    (by unfold Dat.fetched Dat.blockOf iblk; rw [A_eq]; try rfl)

abbrev ms0_0 (t : Fin cfg0.N) : Memref sig .tc .vmem S1x128 .f32 := win0_0.stage (cfg0.slots t 0)
abbrev ms0_1 (t : Fin cfg0.N) : Memref sig .tc .vmem S2x128 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- A chain held at given contents is held at some. -/
theorem bigSepL_some {I X : Type} (l : List I) (Φ : I → X → sProp 𝕄) (x : X) :
    bigSepL l (fun i => Φ i x) ⊢ bigSepL l (fun i => iprop(∃ y, Φ i y)) :=
  bigSepL_mono fun i _ => by iintro H; iexists x; iexact H

theorem cache_some (c : Dev nD) (f : Buf (Elt F) ((c : Thread nD τ).loc cc0_scratch0)) :
    (((c : Thread nD τ).loc cc0_scratch0) ↦{fullShare} f : sProp 𝕄)
      ⊢ iprop(bigSepL chunks (fun j => iprop(∃ f, rowAt c (Memref.whole cc0_scratch0) 0 j f)) ∗ bigSepL chunks (fun j => iprop(∃ f, rowAt c (Memref.whole cc0_scratch0) 1 j f))) := by
  rw [cache_eq]
  exact BIClass.sep_mono (bigSepL_some chunks (fun j f => rowAt c (Memref.whole cc0_scratch0) 0 j f) f) (bigSepL_some chunks (fun j f => rowAt c (Memref.whole cc0_scratch0) 1 j f) f)
theorem result_some (c : Dev nD) (f : Buf (Elt F) ((c : Thread nD τ).loc main_v0_0)) :
    (((c : Thread nD τ).loc main_v0_0) ↦{fullShare} f : sProp 𝕄)
      ⊢ iprop(bigSepL chunks (fun j => iprop(∃ f, rowAt c (Memref.whole main_v0_0) 0 j f)) ∗ bigSepL chunks (fun j => iprop(∃ f, rowAt c (Memref.whole main_v0_0) 1 j f))) := by
  rw [result_eq]
  exact BIClass.sep_mono (bigSepL_some chunks (fun j f => rowAt c (Memref.whole main_v0_0) 0 j f) f) (bigSepL_some chunks (fun j f => rowAt c (Memref.whole main_v0_0) 1 j f) f)

/-- The sums of the loaded cache are the sums of the two arguments. -/
theorem sumsOf_loaded (c : Dev nD) (f f' : Vec F S50000x128 .f32) :
    sumsOf c (Memref.whole cc0_scratch0) (loaded f f') = sums2 f f' := by
  unfold sumsOf sums2 loaded
  simp only [read_ofChunks]
  rfl

/-- The region's step on whole buffers. -/
theorem step_wp (c : Dev nD) (t : Fin cfg0.N) (x : Vec F S1x128 .f32) (f f' : Vec F S50000x128 .f32) (Q : PUnit → sProp 𝕄) :
    iprop((∃ f : Buf (Elt F) ((c : Thread nD τ).loc cc0_scratch0), ((c : Thread nD τ).loc cc0_scratch0) ↦{fullShare} f)
        ∗ ((bigSepL chunks (semAt c cc0_scratch1 0) ∗ bigSepL chunks (semAt c cc0_scratch1 1))
          ∗ (bigSepL chunks (semAt c cc0_scratch2 0) ∗ bigSepL chunks (semAt c cc0_scratch2 1)))
        ∗ ((((c : Thread nD τ).loc main_arg0) ↦{fullShare} f) ∗ (((c : Thread nD τ).loc main_arg1) ↦{fullShare} f'))
        ∗ (∃ g : Buf (Elt F) ((c : Thread nD τ).loc main_v0_0), ((c : Thread nD τ).loc main_v0_0) ↦{fullShare} g)
        ∗ owns (c : Thread nD τ) (ms0_0 t) fullShare x ∗ (∃ d, owns (c : Thread nD τ) (ms0_1 t) fullShare d) ∗ quiet c
        ∗ (iprop((∃ f : Buf (Elt F) ((c : Thread nD τ).loc cc0_scratch0), ((c : Thread nD τ).loc cc0_scratch0) ↦{fullShare} f)
            ∗ ((bigSepL chunks (semAt c cc0_scratch1 0) ∗ bigSepL chunks (semAt c cc0_scratch1 1))
              ∗ (bigSepL chunks (semAt c cc0_scratch2 0) ∗ bigSepL chunks (semAt c cc0_scratch2 1)))
            ∗ ((((c : Thread nD τ).loc main_arg0) ↦{fullShare} f) ∗ (((c : Thread nD τ).loc main_arg1) ↦{fullShare} f'))
            ∗ (((c : Thread nD τ).loc main_v0_0) ↦{fullShare} scaled f f' x)
            ∗ owns (c : Thread nD τ) (ms0_0 t) fullShare x ∗ owns (c : Thread nD τ) (ms0_1 t) fullShare (scoreRows (sums2 f f') x) ∗ quiet c)
          -∗ Q ⟨⟩))
      ⊢ runs c (bodyAt0 t) Q := by
  have hb := body_wp c (Memref.whole main_arg0) (Memref.whole main_arg1) (Memref.whole main_v0_0) (Memref.whole cc0_scratch0)
    cc0_scratch1 cc0_scratch2 f (loaded f f') (scaled f f' x) (scaled f f' x) Q (ms0_0 t) (ms0_1 t) x f'
    (fun j => by unfold loaded; rw [read_ofChunks]; rfl) (fun j => by unfold loaded; rw [read_ofChunks]; rfl)
    (fun h j => by rw [sumsOf_loaded]; unfold loaded scaled; rw [read_ofChunks, read_ofChunks])
    (fun h j => rfl)
  rw [sumsOf_loaded, ← nodes_eq, ← edges_eq, ← cache_eq, ← result_eq] at hb
  rw [show bodyAt0 t = _ from body_eq _ _ _ _ _ _ _ _ _ _ _ _ _ _]
  iintro ⟨⟨%fb, Hb⟩, ⟨Hi, Ht⟩, ⟨Ha, Ha'⟩, ⟨%g, Ho⟩, Hw, Hsc, Hq, Hk⟩
  iapply hb
  isplitl [Ha Ha']
  · isplitl [Ha]; · iexact Ha
    iexact Ha'
  isplitl [Hb]
  · iapply (cache_some c fb); iexact Hb
  isplitl [Ho]
  · iapply (result_some c g); iexact Ho
  isplitl [Hi]; · iexact Hi
  isplitl [Ht]; · iexact Ht
  isplitl [Hw]; · iexact Hw
  isplitl [Hsc]; · iexact Hsc
  isplitl [Hq]; · iexact Hq
  iintro ⟨Ha, Hb, Ho, Hi, Ht, Hw, Hsc, Hq⟩
  iapply Hk
  isplitl [Hb]; · iexists _; iexact Hb
  isplitl [Hi Ht]
  · isplitl [Hi]; · iexact Hi
    iexact Ht
  isplitl [Ha]; · iexact Ha
  isplitl [Ho]; · iexact Ho
  isplitl [Hw]; · iexact Hw
  isplitl [Hsc]; · iexact Hsc
  iexact Hq

/-- The region's one step. -/
theorem sound_body (c : Dev nD) (t : Fin cfg0.N) :
    bodyPre m c t ⊢ runs c (bodyAt0 t) (fun _ => bodyPost m c t) := by
  have ht : t = t0_0 := fin_N0 t
  subst ht
  unfold bodyPre bodyPost
  rw [show (dats m 0 c).Φ (t0_0).castSucc = Pipeline.ΦDRV osem0 spec0 H0 R0 (V m) (V m) c from rfl,
    show (dats m 0 c).Φ (t0_0).succ = Pipeline.ΦDRV osem0 spec0 H0 R0 (V m) (after0 m) c from rfl, held_eq, held_eq, after0_0, after0_1,
    show after0 m c main_v0_0 = G m c t0_0 from Function.update_self _ _ _]
  simp only [before0_0]
  unfold Dat.owesAt Pipeline.owesWithin
  rw [show (dats m 0 c).owed (t0_0).castSucc = 0 from rfl, show (dats m 0 c).owed (t0_0).succ = 0 from rfl]
  iintro ⟨⟨Hb, Hs, Ha, Ho⟩, ⟨%W, -, HW⟩, ⟨%d0, Hw⟩, ⟨%d1, Hsc⟩⟩
  iapply (step_wp c t0_0 (iblk m c 0 t0_0) (V m c main_arg0) (V m c main_arg1))
  isplitl [Hb]; · iexact Hb
  isplitl [Hs]; · iexact Hs
  isplitl [Ha]; · iexact Ha
  isplitl [Ho]; · iexists _; iexact Ho
  isplitl [Hw]; · iexact Hw
  isplitl [Hsc]; · iexists _; iexact Hsc
  isplitl [HW]; · unfold quiet; iexists W; iexact HW
  unfold quiet G scoreBlock
  iintro ⟨Hb, Hs, Ha, Ho, Hw, Hsc, ⟨%W', HW⟩⟩
  isplitl [Hb Hs Ha Ho]
  · isplitl [Hb]; · iexact Hb
    isplitl [Hs]; · iexact Hs
    isplitl [Ha]; · iexact Ha
    iexact Ho
  isplitl [HW]
  · iexists W'; isplitr; · ipureintro; exact fun _ _ => Or.inl trivial
    iexact HW
  isplitl [Hw]; · iexact Hw
  iexact Hsc

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The buffers once the program has ended. -/
abbrev ended (c : Dev nD) : Valuation τ sig (Elt F) :=
  StableHlo.after (List.flatten [hostOps1]) (Pipeline.withArrays spec0 c (Pipeline.withR (V0 m c) R0 c (after0 m c)) fun w => (dats m 0 c).arrAt w cfg0.N)

set_option backward.isDefEq.respectTransparency.types false in
/-- The program ends with its buffers at `ended` and every counter at zero. -/
theorem run_main : θ_run defs (onTc (τ := τ) (main (F := F))) (s₀ m ρ) (fun r => (∀ c : Dev nD,
      ∀ b ∈ Pipeline.restRefs sig spec0, r.2.mem ((c.tc : Thread nD τ).loc b) = ended m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := after0 m) (hmain := hmainD m Variants.none) (hA := A_eq m)
    (hin := fun c => by exact .rfl) (hout := fun c => by exact .rfl)
    (hQ' := fun r h => ⟨fun c => (h.1 c).2, h.2⟩)

end Cert.KernelIdeal.Hand

end
-- ==== Proof.KIResults.lean ====
/-
  What the program of `KernelIdeal` leaves: its arguments as launched, the result, the scores, as functions of the
  arguments' contents.
-/
module

public import proofs.«01_k».proof.Proof.KIRun
public import Idealize.ShloMosaic.Lib.Pipeline.Value
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

/-! ## The lines after the region -/

/-- The lines after the region write two buffers; every other one they leave. -/
theorem tail_keeps (b : Ref sig .tc) (hb : b ∉ [main_call0_v2, main_v0_1]) (U : Valuation τ sig (Elt F)) :
    StableHlo.after (List.flatten [hostOps1]) U (Proc.devRef .tc b) = U (Proc.devRef .tc b) :=
  StableHlo.after_unwritten [main_call0_v2, main_v0_1] rfl hb U

/-- A buffer that is no window's array, not the result and not written after the region ends as the region found it. -/
theorem ended_kept (c : Dev nD) (b : Ref sig .tc) (hb : b ∉ [main_call0_v2, main_v0_1]) (hw : ∀ w, Pipeline.arrRef spec0 w ≠ b) (hR : b ∉ R0) :
    ended m c (Proc.devRef .tc b) = V m c b := by
  unfold ended
  rw [tail_keeps b hb, Pipeline.withArrays_of_ne _ c _ _ b hw, Pipeline.withR_of_not_mem _ _ c _ b hR]

/-- The result ends at the scaled chunks. -/
theorem ended_result (c : Dev nD) : ended m c (Proc.devRef .tc main_v0_0) = G m c t0_0 := by
  unfold ended
  rw [tail_keeps main_v0_0 (by decide), Pipeline.withArrays_of_ne _ c _ _ main_v0_0 (by decide), Pipeline.withR_of_mem _ _ c _ main_v0_0 (by decide)]
  exact Function.update_self _ _ _

/-- The block of the score window is the whole array of score rows. -/
theorem emb_scores (t : Fin cfg0.N) (y) : ((cfg0.win 1).blk t).view.emb y = y := by
  funext d
  apply Fin.ext
  show (0 * _ : ℕ) + 1 * (y d : ℕ) = y d
  omega

/-- The array of score rows after the region. -/
theorem arr_scores (c : Dev nD) : (dats m 0 c).arrAt 1 cfg0.N = scoreBlock m c t0_0 := by
  refine (dats m 0 c).arrAt_eq_of_cover 1 (scoreBlock m c t0_0) (fun t _ => ?_) (fun i => ⟨t0_0, flush0_1 t0_0, ?_⟩)
  · rw [fin_N0 t]
    funext y
    have e := emb_scores t0_0 y
    show scoreBlock m c t0_0 _ = scoreBlock m c t0_0 (((cfg0.win 1).blk t0_0).view.emb y)
    rw [e]
  · exact Finset.mem_map.mpr ⟨i, Finset.mem_univ _, emb_scores t0_0 i⟩

/-- The block of the weight's window is the whole weight row. -/
theorem emb_weight (t : Fin cfg0.N) (y) : ((cfg0.win 0).blk t).view.emb y = y := by
  funext d
  apply Fin.ext
  show (0 * _ : ℕ) + 1 * (y d : ℕ) = y d
  omega

/-- The weight as a row. -/
def weightRow (w : Vec F S128 .f32) : Vec F S1x128 .f32 := shapeCast S1x128 w shapeCasts_S128_S1x128

/-- Before the region the weight is laid out as a row. -/
theorem V_weight (c : Dev nD) : V m c main_call0_v0 = weightRow (m ((c : Thread nD τ).loc main_arg2)) := by
  unfold V V0
  rw [show List.flatten [hostOps0] = (hostOps0 : List (HloOp τ sig (Elt F))) from rfl, StableHlo.after_cons, StableHlo.after_nil]
  exact StableHlo.reshape_result' _ _ _ _ _

theorem block_weight (c : Dev nD) : iblk m c 0 t0_0 = weightRow (m ((c : Thread nD τ).loc main_arg2)) := by
  rw [← V_weight]
  funext y
  exact congrArg (V m c main_call0_v0) (emb_weight t0_0 y)

/-- The two scores, read off the first column of the score rows. -/
def firstColumn (s : FVec F S2x128 .f32) : FVec F S2 .f32 :=
  shapeCast S2 (extractStridedSlice S2x1 ![0, 0] s slices_S2x128_S2x1_0_0) shapeCasts_S2x1_S2

/-- The scores end at the first column of the score rows. -/
theorem ended_scores (c : Dev nD) : ended m c (Proc.devRef .tc main_v0_1) = firstColumn (scoreBlock m c t0_0) := by
  unfold ended
  rw [show List.flatten [hostOps1] = (hostOps1 : List (HloOp τ sig (Elt F))) from rfl, StableHlo.after_cons, StableHlo.after_cons, StableHlo.after_nil]
  refine (StableHlo.reshape_result' _ _ _ _ _).trans ?_
  rw [show (StableHlo.TRef.unary (.of main_call0_v1_1 : StableHlo.TRef sig ⟨S2x128, .f32⟩) (.of main_call0_v2 : StableHlo.TRef sig ⟨S2x1, .f32⟩)
      (extractStridedSlice S2x1 ![0, 0] · slices_S2x128_S2x1_0_0) : HloOp τ sig (Elt F)).result _ (Proc.devRef .tc main_call0_v2) = _ from
    StableHlo.unary_result' _ _ _ _]
  rw [show Pipeline.withArrays spec0 c (Pipeline.withR (V0 m c) R0 c (after0 m c)) (fun w => (dats m 0 c).arrAt w cfg0.N) (Proc.devRef .tc main_call0_v1_1) = _ from
    Pipeline.withArrays_arr spec0 (by decide) c _ _ 1, arr_scores]
  rfl

/-! ## The run at its results -/

/-- The result as a function of the arguments. -/
def outOf (f f' : Vec F S50000x128 .f32) (w : Vec F S128 .f32) : Vec F S100000x128 .f32 := scaled f f' (weightRow w)
/-- The scores as a function of the arguments. -/
def scoresOf (f f' : Vec F S50000x128 .f32) (w : Vec F S128 .f32) : FVec F S2 .f32 := firstColumn (scoreRows (sums2 f f') (weightRow w))

/-- THE RUN: the program ends with its two results at these functions of its arguments, its arguments as launched and
    every counter at zero. -/
theorem run : θ_run defs (onTc (τ := τ) (main (F := F))) ⟨m, fun _ => 0, ρ⟩ (fun r => (∀ c : Dev nD,
      r.2.mem ((c.tc : Thread nD τ).loc main_v0_0)
          = outOf (m ((c.tc : Thread nD τ).loc main_arg0)) (m ((c.tc : Thread nD τ).loc main_arg1)) (m ((c.tc : Thread nD τ).loc main_arg2))
      ∧ r.2.mem ((c.tc : Thread nD τ).loc main_v0_1)
          = scoresOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have rd : ∀ b, b ∈ Pipeline.restRefs sig spec0 → r.2.mem ((c.tc : Thread nD τ).loc b) = ended m c (Proc.devRef .tc b) := h.1 c
  refine ⟨?_, ?_, ?_, ?_, ?_, ?_, ?_⟩
  · rw [rd main_v0_0 (Pipeline.mem_restRefs_of main_v0_0 (by decide) (by decide)), ended_result]
    unfold G outOf
    rw [block_weight, V_main_arg0, V_main_arg1]
  · rw [rd main_v0_1 (Pipeline.mem_restRefs_of main_v0_1 (by decide) (by decide)), ended_scores]
    unfold scoreBlock scoresOf
    rw [block_weight, V_main_arg0, V_main_arg1]
  · rw [rd main_arg0 (Pipeline.mem_restRefs_of main_arg0 (by decide) (by decide)), ended_kept m c main_arg0 (by decide) (by decide) (by decide), V_main_arg0]
  · rw [rd main_arg1 (Pipeline.mem_restRefs_of main_arg1 (by decide) (by decide)), ended_kept m c main_arg1 (by decide) (by decide) (by decide), V_main_arg1]
  · rw [rd main_arg2 (Pipeline.mem_restRefs_of main_arg2 (by decide) (by decide)), ended_kept m c main_arg2 (by decide) (by decide) (by decide), V_main_arg2]
  · rw [rd main_arg3 (Pipeline.mem_restRefs_of main_arg3 (by decide) (by decide)), ended_kept m c main_arg3 (by decide) (by decide) (by decide), V_main_arg3]
  · rw [rd main_arg4 (Pipeline.mem_restRefs_of main_arg4 (by decide) (by decide)), ended_kept m c main_arg4 (by decide) (by decide) (by decide), V_main_arg4]

end Cert.KernelIdeal.Hand

end
-- ==== Proof.KFrame.lean ====
/-
  The frames of `Kernel` and of `KernelIdeal`. Read at machine floats with its named constant as the word it names,
  `KernelIdeal` is `Kernel`, so the run proved for the one is the run of the other.
-/
module

public import proofs.«01_k».proof.Proof.KIResults
public import proofs.«01_k».proof.Proof.Gen.Kernel
public import proofs.«01_k».proof.Proof.Gen.Pre_rows_in_place
public import proofs.«01_k».proof.Defs
public import Idealize.ShloMosaic.Lib.Tactic

@[expose] public section

noncomputable section

namespace Cert.Kernel.Hand

open Idealize.ShloMosaic Idealize.ShloMosaic.TcCoe Idealize.ShloMosaic.Tactic
open Idealize.SL.Sem

/-- A named constant at machine floats is the word written beside its name. -/
local instance literal : Named Bits where
  named := fun _ _ φ b => FloatOps.ofBits φ b

/-- The frame of `KernelIdeal`'s program at any float instance: it ends with its arguments as launched and every counter
    at zero. -/
def Framed (F : FTy → Type) [FloatOps F] [Named F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The frame holds at every float instance. -/
theorem framed (F : FTy → Type) [FloatOps F] [Named F] : Framed F := fun m g _ =>
  (θ_run _ _ _).mono (fun _ h => ⟨fun c => (h.1 c).2.2, h.2⟩) (Cert.KernelIdeal.Hand.run m g)

/-- The claim on `Kernel` is that frame at machine floats. -/
theorem frame_eq : Cert.quiescent_Kernel = Framed Bits := by sl_kernel_rfl

/-- `Kernel` runs, its arguments end unchanged, every counter ends at zero. -/
theorem frame_kernel : Cert.quiescent_Kernel := frame_eq.mpr (framed Bits)

/-- `KernelIdeal` runs, its arguments end unchanged, every counter ends at zero. -/
theorem frame_ideal : Cert.quiescent_KernelIdeal := framed Ideal

/-- The same under the precondition. -/
theorem frame_ideal_pre : Cert.quiescent_KernelIdeal_pre_rows_in_place := fun m g _ => framed Ideal m g trivial

end Cert.Kernel.Hand

end
-- ==== Proof.RIRun.lean ====
/-
  The reference's run, told by the functions of the problem: the rows put in place, the means of their columns, the scores,
  the softmax of the scores, and the sum of the two arrays, each scaled.
-/
module

public import proofs.«01_k».proof.Proof.Gen.ReferenceIdeal
public import proofs.«01_k».proof.Proof.Gen.ReferenceIdeal.Run
public import proofs.«01_k».proof.Proof.Gen.Pre_rows_in_place
public import proofs.«01_k».proof.Defs
public import Idealize.ShloMosaic.Lib.Claim
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The index words as the scatter takes them: a negative one counts from the end, and each is a row of one word. -/
def wrapped (n : IVec S50000 32) : IVec S50000x1 32 :=
  broadcastInDim S50000x1 ![0] bcast_S50000_S50000x1_0
    (select (cmpi .slt n (broadcastInDim S50000 ![] bcast_S_S50000 (constantI S_ 32 0#32)))
      (addi n (broadcastInDim S50000 ![] bcast_S_S50000 (constantI S_ 32 100000#32))) n)

/-- An array of zeros with the rows of `x` at the places that `n` names. -/
def placed (n : IVec S50000 32) (x : FVec F S50000x128 .f32) : FVec F S100000x128 .f32 :=
  Host.scatter scatter_S100000x128_S50000x1_S50000x128_1_0_0_1 (fun _ b => b)
    (broadcastInDim S100000x128 ![] bcast_S_S100000x128 (constant S_ .f32 0x00000000#32)) (wrapped n) x

/-- The means of the columns. -/
def means (x : FVec F S100000x128 .f32) : FVec F S128 .f32 :=
  Host.divf (Host.reduceAdd x (constant S_ .f32 0x00000000#32) reducesTo_S100000x128_S128_d0 h_S_)
    (broadcastInDim S128 ![] bcast_S_S128 (constant S_ .f32 0x47C35000#32))

/-- The scores: the weights times the two arrays' means, side by side. -/
def scores (w p q : FVec F S128 .f32) : FVec F S2 .f32 :=
  Host.dotGeneral dot_S128_S128x2_S2_0_0_n_1_n_n none w
    (concatenate S128x2 1 [⟨S128x1, broadcastInDim S128x1 ![0] bcast_S128_S128x1_0 p⟩,
      ⟨S128x1, broadcastInDim S128x1 ![0] bcast_S128_S128x1_0 q⟩] concatenates_S128x1_S128x1_S128x2_d1)

/-- The exponentials of the scores less the greatest. -/
def exps (s : FVec F S2 .f32) : FVec F S2 .f32 :=
  Host.exp (subf s (broadcastInDim S2 ![0] bcast_S1_S2_0 (broadcastInDim S1 ![] bcast_S_S1
    (maximumf (constant S_ .f32 0xFF800000#32)
      (Host.reduce FloatOps.maximumf s (constant S_ .f32 0xFF800000#32) reducesTo_S2_S_d0 h_S_)))))

/-- The exponentials over their sum. -/
def shares (e : FVec F S2 .f32) : FVec F S2 .f32 :=
  Host.divf e (broadcastInDim S2 ![0] bcast_S1_S2_0 (broadcastInDim S1 ![] bcast_S_S1
    (Host.reduceAdd e (constant S_ .f32 0x00000000#32) reducesTo_S2_S_d0 h_S_)))

/-- The two arrays, each times its share, added up. -/
def combined (g : FVec F S2 .f32) (x y : FVec F S100000x128 .f32) : FVec F S100000x128 .f32 :=
  addf
    (mulf (broadcastInDim S100000x128 ![] bcast_S_S100000x128
      (shapeCast _ (extractStridedSlice S1 ![0] g slices_S2_S1_0) shapeCasts_S1_S_)) x)
    (mulf (broadcastInDim S100000x128 ![] bcast_S_S100000x128
      (shapeCast _ (extractStridedSlice S1 ![1] g slices_S2_S1_1) shapeCasts_S1_S_)) y)

/-- The reference's scores as a function of its arguments. -/
def scoresOf (x y : FVec F S50000x128 .f32) (w : FVec F S128 .f32) (n e : IVec S50000 32) : FVec F S2 .f32 :=
  scores w (means (placed n x)) (means (placed e y))

/-- The reference's array as a function of its arguments. -/
def outOf (x y : FVec F S50000x128 .f32) (w : FVec F S128 .f32) (n e : IVec S50000 32) : FVec F S100000x128 .f32 :=
  combined (shares (exps (scoresOf x y w n e))) (placed n x) (placed e y)

variable (m : (ℓ : Loc nD τ sig) → Buf (Elt F) ℓ) (ρ : Dev nD → PrngReg)

/-- Every run of the reference ends with the two results at these functions of the arguments and the arguments unchanged. -/
theorem run : θ_run defs (onTc (τ := τ) (main (F := F))) ⟨m, fun _ => 0, ρ⟩ fun r => ∀ c : Dev nD,
      r.2.mem ((c.tc : Thread nD τ).loc main_v43)
        = outOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v24)
        = scoresOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2⟩) (Value.run m ρ)

/-- The reference has no semaphore, so its counters read zero whenever one looks. -/
theorem no_counters {Val : EltTy → Type} (s : MemSt nD τ sig Val) : s.sem = fun _ => 0 := sem_eq_zero_of_no_sems (by decide) s

/-- The reference's frame. -/
theorem frame : Cert.quiescent_ReferenceIdeal := fun m ρ _ =>
  (θ_run defs _ _).mono (fun r h => ⟨fun c => (h c).2.2, no_counters r.2⟩) (run m ρ)

/-- The reference's frame under the precondition. -/
theorem frame_pre : Cert.quiescent_ReferenceIdeal_pre_rows_in_place := fun m ρ _ => frame m ρ trivial

end Cert.ReferenceIdeal.Hand

end
-- ==== Proof.KISums.lean ====
/-
  What the pieces of the kernel compute over the extended reals: the column sums of the chunks add up to the column sums of
  a half, the score of a half is the sum of its means times the weights, and the attention of a half is the exponential of
  its score, less the greater score, over the two exponentials' sum.
-/
module

public import proofs.«01_k».proof.Proof.KIResults
public import Idealize.ShloMosaic.Lib.Pointwise

@[expose] public section

set_option maxRecDepth 16384

noncomputable section

namespace Cert.KernelIdeal.Hand

open Cert.KernelIdeal Cert.KernelIdeal.Gen
open Idealize.ShloMosaic

/-- The column sums of one chunk are the sums down its 2500 rows. -/
theorem colsum_apply (v : Vec Ideal S2500x128 .f32) (j : S1x128.Idx) :
    colsum (F := Ideal) v j = ∑ k : Fin 2500, v (ix2 k (j 1)) := by
  unfold colsum k0_pay1
  idx_vars j
  pointwise

/-- A half's scores before they are repeated: the sum over the columns of sum, times the reciprocal, times weight. -/
theorem score_apply (s : FVec Ideal S2x128 .f32) (c : Ideal .f32) (w : Vec Ideal S1x128 .f32) (j : S2.Idx) :
    k0_pay40 s c w j = ∑ k : Fin 128, s (ix2 (j 0) k) * c * w (ix2 0 k) := by
  unfold k0_pay40
  idx_vars j
  pointwise

/-- A half's column sums are those of its chunks, added up. -/
theorem sumFrom_apply (v : Fin 20 → Vec Ideal S2500x128 .f32) (js : List (Fin 20)) (s : FVec Ideal S1x128 .f32) (i : S1x128.Idx) :
    sumFrom (F := Ideal) v js s i = s i + (js.map fun j => colsum (F := Ideal) (v j) i).sum := by
  unfold sumFrom
  induction js generalizing s with
  | nil => simp
  | cons j js ih =>
    rw [List.foldl_cons, ih, List.map_cons, List.sum_cons, ← add_assoc]
    rfl

/-- Row `k` of chunk `j` is row `2500 * j + k` of the half. -/
theorem half_emb_apply (j : Fin 20) (k : Fin 2500) (d : Fin 128) :
    (half j).emb (ix2 k d) = (ix2 (finProdFinEquiv (j, k)) d : S50000x128.Idx) := by
  funext a
  apply Fin.ext
  match a with
  | ⟨0, _⟩ =>
    show 2500 * j.val + 1 * k.val = k.val + 2500 * j.val
    omega
  | ⟨1, _⟩ =>
    show 0 + 1 * d.val = d.val
    omega

/-- A half's column sums are the sums down its 50000 rows. -/
theorem total_apply (f : FVec Ideal S50000x128 .f32) (i : S1x128.Idx) :
    total (F := Ideal) (chunk f) i = ∑ r : Fin 50000, f (ix2 r (i 1)) := by
  have hsum : total (F := Ideal) (chunk f) i = ∑ j : Fin 20, colsum (F := Ideal) (chunk f j) i := by
    unfold total
    rw [sumFrom_apply, Fin.sum_univ_def]
    rfl
  rw [hsum]
  simp only [colsum_apply]
  have hrow : ∀ (j : Fin 20) (k : Fin 2500), (chunk (F := Ideal) f j (ix2 k (i 1)) : EReal) = f (ix2 (finProdFinEquiv (j, k)) (i 1)) := fun j k =>
    congrArg f (half_emb_apply j k (i 1))
  simp only [hrow]
  rw [← Fintype.sum_prod_type' (f := fun (j : Fin 20) (k : Fin 2500) => f (ix2 (finProdFinEquiv (j, k)) (i 1)))]
  exact Fintype.sum_equiv finProdFinEquiv _ (fun r : Fin (20 * 2500) => f (ix2 r (i 1))) fun _ => rfl

/-- The first row of the stack. -/
theorem stack_zero (n e : FVec Ideal S1x128 .f32) (k : Fin 128) : stack (F := Ideal) n e (ix2 0 k) = n (ix2 0 k) := by
  unfold stack
  pointwise

/-- The second row of the stack. -/
theorem stack_one (n e : FVec Ideal S1x128 .f32) (k : Fin 128) : stack (F := Ideal) n e (ix2 1 k) = e (ix2 0 k) := by
  unfold stack
  pointwise

/-- The attention from the scores: exponentials of the scores less the greater one, over their sum. -/
theorem attn_apply (s : FVec Ideal S2x128 .f32) (w : Vec Ideal S1x128 .f32) (h : Fin 2) :
    attn (F := Ideal) s w (ix1 h)
      = Ideal.div (Ideal.exp (k0_pay40 s perGene w (ix1 h) - max (k0_pay40 s perGene w (ix1 0)) (k0_pay40 s perGene w (ix1 1))))
          (Ideal.exp (k0_pay40 s perGene w (ix1 0) - max (k0_pay40 s perGene w (ix1 0)) (k0_pay40 s perGene w (ix1 1)))
            + Ideal.exp (k0_pay40 s perGene w (ix1 1) - max (k0_pay40 s perGene w (ix1 0)) (k0_pay40 s perGene w (ix1 1)))) := by
  unfold attn k0_pay42
  generalize k0_pay40 s perGene w = p
  pointwise

/-- A chunk scaled is each of its elements times its half's attention. -/
theorem scale_apply (h : Fin 2) (g : FVec Ideal S2 .f32) (v : Vec Ideal S2500x128 .f32) (i : S2500x128.Idx) :
    scale (F := Ideal) h g v i = g (ix1 h) * v i := by
  match h with
  | 0 =>
    unfold scale k0_pay46
    idx_vars i
    pointwise
  | 1 =>
    unfold scale k0_pay89
    idx_vars i
    pointwise

/-- The scores that leave the kernel are the ones repeated along the rows. -/
theorem firstColumn_apply (s : FVec Ideal S2x128 .f32) (w : Vec Ideal S1x128 .f32) (j : S2.Idx) :
    firstColumn (F := Ideal) (scoreRows (F := Ideal) s w) j = k0_pay40 s perGene w j := by
  unfold firstColumn scoreRows k0_pay41
  generalize k0_pay40 s perGene w = p
  idx_vars j
  pointwise

end Cert.KernelIdeal.Hand

end
-- ==== Proof.RIRows.lean ====
/-
  Where the reference's rows lie: under the precondition the node rows fill the first half of an array that is zero in the
  second, and the hyperedge rows fill the second half of an array that is zero in the first.
-/
module

public import proofs.«01_k».proof.Proof.RIRun
public import Idealize.ShloMosaic.Lib.Pointwise
public import Idealize.ShloMosaic.Lib.ReduceAll
public import Idealize.ShloMosaic.Lib.WordCmp
public import Idealize.ShloMosaic.Lib.Routing.OpsPair
public import Idealize.ShloMosaic.Lib.Routing.OpsSet

@[expose] public section

set_option maxRecDepth 16384

noncomputable section

namespace Cert.ReferenceIdeal.Hand

open Cert.ReferenceIdeal Cert.ReferenceIdeal.Gen
open Idealize.ShloMosaic

/-- The index words are `b`, `b + 1`, and so on. -/
def CountsFrom (b : ℕ) (n : IVec S50000 32) : Prop := ∀ r : Fin 50000, n (ix1 r) = BitVec.ofNat 32 (b + r.val)

/-- What the precondition says of the two index arrays. -/
theorem counts_of_pre {x y : FVec Ideal S50000x128 .f32} {w : FVec Ideal S128 .f32} {n e : IVec S50000 32}
    (h : Cert.Pre_rows_in_place.fn (F := Ideal) x y w n e = fun _ => 1#1) : CountsFrom 0 n ∧ CountsFrom 50000 e := by
  have h0 := congrFun h ix0
  unfold Cert.Pre_rows_in_place.fn at h0
  have h1 := IntOp.andi_eq_one.mp h0
  have : Subsingleton (Cert.Pre_rows_in_place.S_).Idx := ⟨fun a b => funext fun d => d.elim0⟩
  refine ⟨fun r => ?_, fun r => ?_⟩
  · have h2 := Host.reduce_andi_all _ _ _ _ _ h1.1 (ix1 r)
    have h3 : n (ix1 r) = BitVec.ofNat 32 r.val := IntOp.cmpi_eq.mp h2
    rw [h3, Nat.zero_add]
  · have h2 := Host.reduce_andi_all _ _ _ _ _ h1.2 (ix1 r)
    have h3 : e (ix1 r) = 50000#32 + BitVec.ofNat 32 r.val := IntOp.cmpi_eq.mp h2
    rw [h3, BitVec.ofNat_add]

/-- The wrap leaves index words that count from `b` as they are, each a row of one word. -/
theorem wrapped_apply {b : ℕ} (hb : b ≤ 50000) {n : IVec S50000 32} (hn : CountsFrom b n) (r : Fin 50000) :
    wrapped n (ix2 r 0) = BitVec.ofNat 32 (b + r.val) := by
  have hr := r.isLt
  have hw : wrapped n (ix2 r 0) = Scalar.select (IntOp.cmpi .slt (n (ix1 r)) 0#32) (IntOp.addi (n (ix1 r)) 100000#32) (n (ix1 r)) := by
    unfold wrapped
    pointwise
  rw [hw, Routing.wrap_of_lt _ _ ?_, hn r]
  rw [hn r, BitVec.toNat_ofNat]
  omega

/-- The scatter's update `(r, d)` lands in the row that its index word names, in its own column. -/
theorem lands (idx : IVec S50000x1 32) (r : Fin 50000) (d : Fin 128) (i : Fin 100000) (k : Fin 128) :
    scatter_S100000x128_S50000x1_S50000x128_1_0_0_1.resultIdx? (ix2 r d) idx = some (ix2 i k)
      ↔ (idx (ix2 r 0)).toInt = (i.val : Int) ∧ d = k := by
  have w0 : scatter_S100000x128_S50000x1_S50000x128_1_0_0_1.window (ix2 r d) 0 = 0 := rfl
  have w1 : scatter_S100000x128_S50000x1_S50000x128_1_0_0_1.window (ix2 r d) 1 = d.val := rfl
  have s1 : scatter_S100000x128_S50000x1_S50000x128_1_0_0_1.start (ix2 r d) idx 1 = 0 := rfl
  have s0 : scatter_S100000x128_S50000x1_S50000x128_1_0_0_1.start (ix2 r d) idx 0 = (idx (ix2 r 0)).toInt := by
    refine congrArg (fun i => (idx i).toInt) (funext fun a => Fin.ext ?_)
    match a with
    | ⟨0, _⟩ => rfl
    | ⟨1, _⟩ => rfl
  have h := Routing.resultIdx?_ix2 (R := 100000) (C := 128) scatter_S100000x128_S50000x1_S50000x128_1_0_0_1 (ix2 r d) idx i k
  rw [s0, s1, w0, w1] at h
  refine h.trans ?_
  rw [Fin.ext_iff]
  omega

/-- Rows placed from row `b` on: row `b + r` is row `r` of what is placed. -/
theorem placed_hit {b : ℕ} (hb : b ≤ 50000) {n : IVec S50000 32} (hn : CountsFrom b n) (x : FVec Ideal S50000x128 .f32)
    (i : Fin 100000) (k : Fin 128) (r : Fin 50000) (hi : i.val = b + r.val) :
    placed (F := Ideal) n x (ix2 i k) = x (ix2 r k) := by
  have word : ∀ q : Fin 50000, (wrapped n (ix2 q 0)).toInt = ((b + q.val : ℕ) : Int) := fun q => by
    have hq := q.isLt
    rw [wrapped_apply hb hn, StableHlo.Predicate.toInt_ofNat_small _ (by omega)]
  refine Routing.scatter_set_hit _ _ _ _ _ _ (fun u hu => ?_) (ix2 r k) ((lands _ r k i k).mpr ⟨?_, rfl⟩)
  · obtain ⟨q, t, rfl⟩ : ∃ (q : Fin 50000) (t : Fin 128), u = ix2 q t := ⟨u 0, u 1, eq_ix2 u⟩
    obtain ⟨h0, rfl⟩ := (lands _ q t i k).mp hu
    rw [word] at h0
    obtain rfl : q = r := Fin.ext (by omega)
    rfl
  · rw [word]; omega

/-- Rows placed from row `b` on: every other row is zero. -/
theorem placed_miss {b : ℕ} (hb : b ≤ 50000) {n : IVec S50000 32} (hn : CountsFrom b n) (x : FVec Ideal S50000x128 .f32)
    (i : Fin 100000) (k : Fin 128) (hi : ∀ r : Fin 50000, i.val ≠ b + r.val) :
    placed (F := Ideal) n x (ix2 i k) = 0 := by
  refine (Routing.scatter_set_miss _ _ _ _ _ fun u hu => ?_).trans ?_
  · obtain ⟨q, t, rfl⟩ : ∃ (q : Fin 50000) (t : Fin 128), u = ix2 q t := ⟨u 0, u 1, eq_ix2 u⟩
    have h := ((lands _ q t i k).mp hu).1
    have hq := q.isLt
    rw [wrapped_apply hb hn, StableHlo.Predicate.toInt_ofNat_small _ (by omega)] at h
    exact hi q (by omega)
  · pointwise

end Cert.ReferenceIdeal.Hand

end
-- ==== Proof.RIValue.lean ====
/-
  What the pieces of the reference compute over the extended reals: means as sums over 100000, scores as sums of weight
  times mean, the softmax of two scores, and the combination element by element.
-/
module

public import proofs.«01_k».proof.Proof.RIRun
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen
open Idealize.ShloMosaic

/-- The reference's divisor is the number of rows. -/
theorem divisor : Ideal.ofBits .f32 0x47C35000#32 = ((100000 : ℝ) : EReal) := by
  simp [Ideal.ofBits, Ideal.ieee, -EReal.coe_mul]
  norm_num

/-- The word from which the reference takes a maximum is the least value. -/
theorem least : Ideal.ofBits .f32 0xFF800000#32 = ⊥ := by simp [Ideal.ofBits, Ideal.ieee]

/-- A column's mean: its sum times the reciprocal of the number of rows. -/
theorem means_apply (x : FVec Ideal S100000x128 .f32) (k : Fin 128) :
    means (F := Ideal) x (ix1 k) = (∑ i : Fin 100000, x (ix2 i k)) * ((1 / 100000 : ℝ) : EReal) := by
  unfold means
  pointwise
  exact (congrArg (Ideal.div _) divisor).trans (Ideal.div_coe (by norm_num) _)

/-- The first score: the sum of weight times mean over the first array. -/
theorem scores_zero (w p q : FVec Ideal S128 .f32) :
    scores (F := Ideal) w p q (ix1 0) = ∑ k : Fin 128, w (ix1 k) * p (ix1 k) := by
  unfold scores
  pointwise

/-- The second score: the same over the second array. -/
theorem scores_one (w p q : FVec Ideal S128 .f32) :
    scores (F := Ideal) w p q (ix1 1) = ∑ k : Fin 128, w (ix1 k) * q (ix1 k) := by
  unfold scores
  pointwise

/-- The exponentials of the two scores less the greater. -/
theorem exps_apply (s : FVec Ideal S2 .f32) (h : Fin 2) :
    exps (F := Ideal) s (ix1 h) = Ideal.exp (s (ix1 h) - max (s (ix1 0)) (s (ix1 1))) := by
  unfold exps
  pointwise
  have hmax : Finset.fold max (Ideal.ofBits .f32 0xFF800000#32) (fun k : Fin 2 => s (ix1 k)) Finset.univ
      = max (s (ix1 0)) (s (ix1 1)) := by
    rw [least, show (Finset.univ : Finset (Fin 2)) = {0, 1} from rfl, Finset.fold_insert (by decide), Finset.fold_singleton,
      max_bot_right]
  exact congrArg (fun t => Ideal.exp (s (ix1 h) - t)) ((congrArg₂ max least hmax).trans (max_bot_left _))

/-- The exponentials over the sum of the two. -/
theorem shares_apply (e : FVec Ideal S2 .f32) (h : Fin 2) :
    shares (F := Ideal) e (ix1 h) = Ideal.div (e (ix1 h)) (e (ix1 0) + e (ix1 1)) := by
  unfold shares
  pointwise
  exact congrArg (Ideal.div (e (ix1 h))) (Fin.sum_univ_two fun k => e (ix1 k))

/-- The combination, element by element. -/
theorem combined_apply (g : FVec Ideal S2 .f32) (x y : FVec Ideal S100000x128 .f32) (i : Fin 100000) (k : Fin 128) :
    combined (F := Ideal) g x y (ix2 i k) = g (ix1 0) * x (ix2 i k) + g (ix1 1) * y (ix2 i k) := by
  unfold combined
  pointwise

end Cert.ReferenceIdeal.Hand

end
-- ==== Proof.Equation.lean ====
/-
  The kernel's two results are the reference's, over the extended reals, whatever the rows and the weights hold, where the
  index arrays count from 0 and from 50000.
-/
module

public import proofs.«01_k».proof.Proof.KISums
public import proofs.«01_k».proof.Proof.RIRows
public import proofs.«01_k».proof.Proof.RIValue

@[expose] public section

set_option maxRecDepth 16384

noncomputable section

namespace Cert.Equation

open Idealize.ShloMosaic
open Cert.KernelIdeal (S100000x128 S50000x128 S128 S2 S1x128 S2x128)
open Cert.ReferenceIdeal (S50000)
open Cert.ReferenceIdeal.Hand (CountsFrom placed placed_hit placed_miss means means_apply)

/-- The kernel's constant is the reciprocal of the number of rows. -/
theorem perGene_eq : Cert.KernelIdeal.Hand.perGene (F := Ideal) = ((1 / 100000 : ℝ) : EReal) :=
  IdealRules.named_const.ideal_named_scalar _ _ _ _ rfl

/-- A sum down the 100000 rows is the sum down the first 50000 and the sum down the last. -/
theorem sum_halves (f : Fin 100000 → EReal) :
    ∑ i, f i = (∑ r : Fin 50000, f ⟨r.val, by omega⟩) + ∑ r : Fin 50000, f ⟨50000 + r.val, by omega⟩ :=
  Fin.sum_univ_add (a := 50000) (b := 50000) f

/-- The node rows in place: a column's sum is the sum down the node rows. -/
theorem sum_nodes {n : IVec S50000 32} (hn : CountsFrom 0 n) (x : FVec Ideal S50000x128 .f32) (k : Fin 128) :
    ∑ i : Fin 100000, placed (F := Ideal) n x (ix2 i k) = ∑ r : Fin 50000, x (ix2 r k) := by
  rw [sum_halves]
  have low : ∀ r : Fin 50000, placed (F := Ideal) n x (ix2 (⟨r.val, by omega⟩ : Fin 100000) k) = x (ix2 r k) := fun r =>
    placed_hit (by decide) hn x _ k r (Nat.zero_add _).symm
  have high : ∀ r : Fin 50000, placed (F := Ideal) n x (ix2 (⟨50000 + r.val, by omega⟩ : Fin 100000) k) = 0 := fun r =>
    placed_miss (by decide) hn x _ k fun q => by show 50000 + r.val ≠ _; omega
  simp only [low, high, Finset.sum_const_zero, add_zero]

/-- The hyperedge rows in place: a column's sum is the sum down the hyperedge rows. -/
theorem sum_edges {e : IVec S50000 32} (he : CountsFrom 50000 e) (y : FVec Ideal S50000x128 .f32) (k : Fin 128) :
    ∑ i : Fin 100000, placed (F := Ideal) e y (ix2 i k) = ∑ r : Fin 50000, y (ix2 r k) := by
  rw [sum_halves]
  have low : ∀ r : Fin 50000, placed (F := Ideal) e y (ix2 (⟨r.val, by omega⟩ : Fin 100000) k) = 0 := fun r =>
    placed_miss le_rfl he y _ k fun q => by show r.val ≠ _; omega
  have high : ∀ r : Fin 50000, placed (F := Ideal) e y (ix2 (⟨50000 + r.val, by omega⟩ : Fin 100000) k) = y (ix2 r k) := fun r =>
    placed_hit le_rfl he y _ k r rfl
  simp only [low, high, Finset.sum_const_zero, zero_add]

variable (x y : FVec Ideal S50000x128 .f32) (w : FVec Ideal S128 .f32) {n e : IVec S50000 32}

/-- The weights as the kernel holds them, one row. -/
theorem weightRow_apply (k : Fin 128) : Cert.KernelIdeal.Hand.weightRow (F := Ideal) w (ix2 0 k) = w (ix1 k) := by
  unfold Cert.KernelIdeal.Hand.weightRow
  pointwise

/-- A score: the sum over the columns of weight times mean, the mean being a sum over 50000 rows times the reciprocal. -/
def scoreOf (w : FVec Ideal S128 .f32) (f : FVec Ideal S50000x128 .f32) : EReal :=
  ∑ k : Fin 128, w (ix1 k) * ((∑ r : Fin 50000, f (ix2 r k)) * ((1 / 100000 : ℝ) : EReal))

/-- A kernel's score from what its row of sums holds. -/
theorem kernel_score (s : FVec Ideal S2x128 .f32) (h : Fin 2) (f : FVec Ideal S50000x128 .f32)
    (hs : ∀ k : Fin 128, s (ix2 h k) = ∑ r : Fin 50000, f (ix2 r k)) :
    Cert.KernelIdeal.Gen.k0_pay40 s (Cert.KernelIdeal.Hand.perGene (F := Ideal)) (Cert.KernelIdeal.Hand.weightRow w) (ix1 h)
      = scoreOf w f := by
  unfold scoreOf
  rw [Cert.KernelIdeal.Hand.score_apply, perGene_eq]
  refine Finset.sum_congr rfl fun k _ => ?_
  rw [weightRow_apply, mul_comm]
  exact congrArg (fun t => w (ix1 k) * (t * _)) (hs k)

/-- The kernel's scores, the nodes' and the hyperedges'. -/
theorem kernel_scores :
    Cert.KernelIdeal.Gen.k0_pay40 (Cert.KernelIdeal.Hand.sums2 x y) (Cert.KernelIdeal.Hand.perGene (F := Ideal))
        (Cert.KernelIdeal.Hand.weightRow w) (ix1 0) = scoreOf w x
    ∧ Cert.KernelIdeal.Gen.k0_pay40 (Cert.KernelIdeal.Hand.sums2 x y) (Cert.KernelIdeal.Hand.perGene (F := Ideal))
        (Cert.KernelIdeal.Hand.weightRow w) (ix1 1) = scoreOf w y := by
  unfold Cert.KernelIdeal.Hand.sums2
  exact ⟨kernel_score w _ 0 x fun k => (Cert.KernelIdeal.Hand.stack_zero _ _ k).trans (Cert.KernelIdeal.Hand.total_apply x (ix2 0 k)),
    kernel_score w _ 1 y fun k => (Cert.KernelIdeal.Hand.stack_one _ _ k).trans (Cert.KernelIdeal.Hand.total_apply y (ix2 0 k))⟩

/-- The reference's scores, the nodes' and the hyperedges'. -/
theorem reference_scores (hn : CountsFrom 0 n) (he : CountsFrom 50000 e) :
    Cert.ReferenceIdeal.Hand.scoresOf (F := Ideal) x y w n e (ix1 0) = scoreOf w x
    ∧ Cert.ReferenceIdeal.Hand.scoresOf (F := Ideal) x y w n e (ix1 1) = scoreOf w y := by
  unfold Cert.ReferenceIdeal.Hand.scoresOf scoreOf
  refine ⟨?_, ?_⟩
  · rw [Cert.ReferenceIdeal.Hand.scores_zero]
    refine Finset.sum_congr rfl fun k _ => ?_
    rw [means_apply, sum_nodes hn]
  · rw [Cert.ReferenceIdeal.Hand.scores_one]
    refine Finset.sum_congr rfl fun k _ => ?_
    rw [means_apply, sum_edges he]

/-- The two programs' scores agree. -/
theorem score_eq (hn : CountsFrom 0 n) (he : CountsFrom 50000 e) (h : Fin 2) :
    Cert.KernelIdeal.Gen.k0_pay40 (Cert.KernelIdeal.Hand.sums2 x y) (Cert.KernelIdeal.Hand.perGene (F := Ideal))
        (Cert.KernelIdeal.Hand.weightRow w) (ix1 h)
      = Cert.ReferenceIdeal.Hand.scoresOf (F := Ideal) x y w n e (ix1 h) := by
  have hk := kernel_scores x y w
  have hr := reference_scores x y w hn he
  revert h
  exact Fin.forall_fin_two.mpr ⟨hk.1.trans hr.1.symm, hk.2.trans hr.2.symm⟩

/-- The two programs' second results agree. -/
theorem scores_eq (hn : CountsFrom 0 n) (he : CountsFrom 50000 e) :
    Cert.KernelIdeal.Hand.scoresOf (F := Ideal) x y w = Cert.ReferenceIdeal.Hand.scoresOf (F := Ideal) x y w n e := by
  funext j
  unfold Cert.KernelIdeal.Hand.scoresOf
  rw [Cert.KernelIdeal.Hand.firstColumn_apply]
  obtain ⟨h, rfl⟩ : ∃ h : Fin 2, j = ix1 h := ⟨j 0, eq_ix1 j⟩
  exact score_eq x y w hn he h

/-- The two programs' attention agrees. -/
theorem attn_eq (hn : CountsFrom 0 n) (he : CountsFrom 50000 e) (h : Fin 2) :
    Cert.KernelIdeal.Hand.attn (F := Ideal) (Cert.KernelIdeal.Hand.sums2 x y) (Cert.KernelIdeal.Hand.weightRow w) (ix1 h)
      = Cert.ReferenceIdeal.Hand.shares (Cert.ReferenceIdeal.Hand.exps (Cert.ReferenceIdeal.Hand.scoresOf (F := Ideal) x y w n e)) (ix1 h) := by
  rw [Cert.KernelIdeal.Hand.attn_apply, Cert.ReferenceIdeal.Hand.shares_apply]
  simp only [Cert.ReferenceIdeal.Hand.exps_apply, score_eq x y w hn he]

/-- The kernel's result, row by row: its half's attention times the row. -/
theorem kernel_out_apply (h : Fin 2) (r : Fin 50000) (i : Fin 100000) (hi : i.val = 50000 * h.val + r.val) (k : Fin 128) :
    Cert.KernelIdeal.Hand.outOf (F := Ideal) x y w (ix2 i k)
      = Cert.KernelIdeal.Hand.attn (F := Ideal) (Cert.KernelIdeal.Hand.sums2 x y) (Cert.KernelIdeal.Hand.weightRow w) (ix1 h)
        * (if h = 0 then x else y) (ix2 r k) := by
  have hr := r.isLt
  have part : Cert.KernelIdeal.Hand.partOf (ix2 i k) = h := Fin.ext (by
    show i.val / 50000 = h.val
    omega)
  have row : ∀ f : FVec Ideal S50000x128 .f32, Cert.KernelIdeal.Hand.chunk (F := Ideal) f (Cert.KernelIdeal.Hand.chunkOf (ix2 i k))
      (Cert.KernelIdeal.Hand.placeOf (ix2 i k)) = f (ix2 r k) := fun f => by
    refine congrArg f (funext fun a => Fin.ext ?_)
    match a with
    | ⟨0, _⟩ =>
      show 2500 * (i.val % 50000 / 2500) + 1 * (i.val % 2500) = r.val
      omega
    | ⟨1, _⟩ =>
      show 0 + 1 * k.val = k.val
      omega
  have picked : Cert.KernelIdeal.Hand.pick (F := Ideal) x y h (Cert.KernelIdeal.Hand.chunkOf (ix2 i k))
      (Cert.KernelIdeal.Hand.placeOf (ix2 i k)) = (if h = 0 then x else y) (ix2 r k) := by
    clear part hi
    revert h
    exact Fin.forall_fin_two.mpr ⟨row x, row y⟩
  refine Eq.trans (Cert.KernelIdeal.Hand.scale_apply (Cert.KernelIdeal.Hand.partOf (ix2 i k)) _ _ _) ?_
  rw [part, picked]

/-- The two programs' first results agree. -/
theorem out_eq (hn : CountsFrom 0 n) (he : CountsFrom 50000 e) :
    Cert.KernelIdeal.Hand.outOf (F := Ideal) x y w = Cert.ReferenceIdeal.Hand.outOf (F := Ideal) x y w n e := by
  funext j
  obtain ⟨i, k, rfl⟩ : ∃ (i : Fin 100000) (k : Fin 128), j = ix2 i k := ⟨j 0, j 1, eq_ix2 j⟩
  unfold Cert.ReferenceIdeal.Hand.outOf
  rw [Cert.ReferenceIdeal.Hand.combined_apply, ← attn_eq x y w hn he, ← attn_eq x y w hn he]
  by_cases hi : i.val < 50000
  · rw [kernel_out_apply x y w 0 ⟨i.val, hi⟩ i (by simp) k, if_pos rfl, placed_hit (by decide) hn x i k ⟨i.val, hi⟩ (by simp),
      placed_miss le_rfl he y i k (fun r => by omega), mul_zero, add_zero]
  · have hlt := i.isLt
    have hr : i.val = 50000 + (i.val - 50000) := by omega
    rw [kernel_out_apply x y w 1 ⟨i.val - 50000, by omega⟩ i (by simpa using hr) k, if_neg (by decide),
      placed_miss (by decide) hn x i k (fun r => by omega), placed_hit le_rfl he y i k ⟨i.val - 50000, by omega⟩ hr,
      mul_zero, zero_add]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rows_in_place
public import proofs.«01_k».proof.Proof.KFrame
public import proofs.«01_k».proof.Proof.RIRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- With the index arrays in place, kernel and reference return the same two results over the extended reals. -/
theorem same_results : Cert.algebraic_KernelIdeal_ReferenceIdeal_pre_rows_in_place := by
  intro m g m' g' pre agree
  refine ⟨_, _, (θ_run _ _ _).mono (fun _ h => h.1) (Cert.KernelIdeal.Hand.run m g),
    (θ_run _ _ _).mono (fun _ h c => ?_) (Cert.ReferenceIdeal.Hand.run m' g')⟩
  obtain ⟨out, scores, kept⟩ := h c
  obtain ⟨a0, a1, a2, a3, a4⟩ := agree c
  obtain ⟨hn, he⟩ := Cert.ReferenceIdeal.Hand.counts_of_pre (pre c)
  refine ⟨out.trans ?_, scores.trans ?_, kept⟩
  · rw [a0, a1, a2, a3, a4]
    exact (Cert.Equation.out_eq _ _ _ hn he).symm
  · rw [a0, a1, a2, a3, a4]
    exact (Cert.Equation.scores_eq _ _ _ hn he).symm

/-- The certificate's claim: the frames, the one named constant, and the equality of the results. -/
theorem claim : Cert.Claim := ⟨Cert.Kernel.Gen.facts, Cert.KernelIdeal.Gen.facts, Cert.ReferenceIdeal.Gen.facts, Cert.Pre_rows_in_place.Gen.facts,
  Cert.Kernel.Hand.frame_kernel, Cert.Kernel.Hand.frame_ideal, Cert.Kernel.Hand.frame_ideal_pre, Cert.ReferenceIdeal.Hand.frame,
  Cert.ReferenceIdeal.Hand.frame_pre,
  IdealRules.named_const.statement Cert.KernelIdeal.κ "per_gene" .f32 0x3727C5AC#32 ((1 / 100000 : ℝ) : EReal) rfl, same_results⟩

end Cert.Proof

end
